-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x20 : Shape := ⟨2, ![16384, 20]⟩
abbrev S1 : Shape := ⟨1, ![1]⟩
abbrev S1000000x1 : Shape := ⟨2, ![1000000, 1]⟩
abbrev S1x18 : Shape := ⟨2, ![1, 18]⟩
abbrev S1000000x18 : Shape := ⟨2, ![1000000, 18]⟩
abbrev S54x512 : Shape := ⟨2, ![54, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1x1 : Shape := ⟨2, ![1, 1]⟩
abbrev S18x512 : Shape := ⟨2, ![18, 512]⟩
abbrev S1x512 : Shape := ⟨2, ![1, 512]⟩
abbrev S1x256 : Shape := ⟨2, ![1, 256]⟩
abbrev S1x128 : Shape := ⟨2, ![1, 128]⟩
abbrev S8192x1 : Shape := ⟨2, ![8192, 1]⟩
abbrev S8192 : Shape := ⟨1, ![8192]⟩
abbrev S_ : Shape := ⟨0, ![]⟩
abbrev S8192x18 : Shape := ⟨2, ![8192, 18]⟩
abbrev S2048x20 : Shape := ⟨2, ![2048, 20]⟩
abbrev S2048x18 : Shape := ⟨2, ![2048, 18]⟩
abbrev S2048x1 : Shape := ⟨2, ![2048, 1]⟩
abbrev S2048 : Shape := ⟨1, ![2048]⟩
abbrev S2048x512 : Shape := ⟨2, ![2048, 512]⟩
abbrev S2048x256 : Shape := ⟨2, ![2048, 256]⟩
abbrev S2048x128 : Shape := ⟨2, ![2048, 128]⟩
abbrev S16384 : Shape := ⟨1, ![16384]⟩

abbrev nBuf : Space → Nat
  | .hbm => 223
  | .vmem => 44
  | .smem => 2
  | _ => 0

abbrev hbmTy0_0 (i : Nat) : BufTy := match i % 128 with
  | 0 => ⟨S16384x20, .f32⟩
  | 1 => ⟨S1, .f32⟩
  | 2 => ⟨S1000000x1, .f32⟩
  | 3 => ⟨S1x18, .f32⟩
  | 4 => ⟨S1, .f32⟩
  | 5 => ⟨S1000000x18, .f32⟩
  | 6 => ⟨S54x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x1, .f32⟩
  | 13 => ⟨S1, .f32⟩
  | 14 => ⟨S1, .f32⟩
  | 15 => ⟨S1, .f32⟩
  | 16 => ⟨S1x1, .f32⟩
  | 17 => ⟨S18x512, .f32⟩
  | 18 => ⟨S18x512, .f32⟩
  | 19 => ⟨S18x512, .f32⟩
  | 20 => ⟨S1x512, .f32⟩
  | 21 => ⟨S1x256, .f32⟩
  | 22 => ⟨S1x128, .f32⟩
  | 23 => ⟨S1x128, .f32⟩
  | 24 => ⟨S8192x1, .f32⟩
  | 25 => ⟨S8192, .f32⟩
  | 26 => ⟨S8192, .i32⟩
  | 27 => ⟨S8192x1, .f32⟩
  | 28 => ⟨S8192, .f32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S1, .i32⟩
  | 39 => ⟨S_, .i32⟩
  | 40 => ⟨S8192x1, .i32⟩
  | 41 => ⟨S8192x1, .i1⟩
  | 42 => ⟨S1x1, .i32⟩
  | 43 => ⟨S8192x1, .i32⟩
  | 44 => ⟨S8192x1, .i1⟩
  | 45 => ⟨S8192x1, .i1⟩
  | 46 => ⟨S_, .i1⟩
  | 47 => ⟨S8192, .i1⟩
  | 48 => ⟨S8192x18, .f32⟩
  | 49 => ⟨S8192x18, .i1⟩
  | 50 => ⟨S_, .f32⟩
  | 51 => ⟨S8192x18, .f32⟩
  | 52 => ⟨S8192x18, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S1, .i32⟩
  | 62 => ⟨S_, .i32⟩
  | 63 => ⟨S8192x1, .i32⟩
  | 64 => ⟨S8192x1, .i1⟩
  | 65 => ⟨S1x1, .i32⟩
  | 66 => ⟨S8192x1, .i32⟩
  | 67 => ⟨S8192x1, .i1⟩
  | 68 => ⟨S8192x1, .i1⟩
  | 69 => ⟨S_, .i1⟩
  | 70 => ⟨S8192, .i1⟩
  | 71 => ⟨S8192x18, .f32⟩
  | 72 => ⟨S8192x18, .i1⟩
  | 73 => ⟨S_, .f32⟩
  | 74 => ⟨S8192x18, .f32⟩
  | 75 => ⟨S8192x18, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S1, .i32⟩
  | 85 => ⟨S_, .i32⟩
  | 86 => ⟨S8192x1, .i32⟩
  | 87 => ⟨S8192x1, .i1⟩
  | 88 => ⟨S1x1, .i32⟩
  | 89 => ⟨S8192x1, .i32⟩
  | 90 => ⟨S8192x1, .i1⟩
  | 91 => ⟨S8192x1, .i1⟩
  | 92 => ⟨S_, .i1⟩
  | 93 => ⟨S8192, .i1⟩
  | 94 => ⟨S8192x1, .f32⟩
  | 95 => ⟨S8192x1, .i1⟩
  | 96 => ⟨S_, .f32⟩
  | 97 => ⟨S8192x1, .f32⟩
  | 98 => ⟨S8192x1, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S1, .i32⟩
  | 108 => ⟨S_, .i32⟩
  | 109 => ⟨S8192x1, .i32⟩
  | 110 => ⟨S8192x1, .i1⟩
  | 111 => ⟨S1x1, .i32⟩
  | 112 => ⟨S8192x1, .i32⟩
  | 113 => ⟨S8192x1, .i1⟩
  | 114 => ⟨S8192x1, .i1⟩
  | 115 => ⟨S_, .i1⟩
  | 116 => ⟨S8192, .i1⟩
  | 117 => ⟨S8192x1, .f32⟩
  | 118 => ⟨S8192x1, .i1⟩
  | 119 => ⟨S_, .f32⟩
  | 120 => ⟨S8192x1, .f32⟩
  | 121 => ⟨S8192x1, .f32⟩
  | 122 => ⟨S8192, .f32⟩
  | 123 => ⟨S8192x1, .f32⟩
  | 124 => ⟨S8192, .f32⟩
  | 125 => ⟨S8192, .i32⟩
  | 126 => ⟨S8192x1, .f32⟩
  | 127 => ⟨S8192, .f32⟩
  | _ => ⟨S16384x20, .f32⟩

abbrev hbmTy0_1 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S1, .i32⟩
  | 10 => ⟨S_, .i32⟩
  | 11 => ⟨S8192x1, .i32⟩
  | 12 => ⟨S8192x1, .i1⟩
  | 13 => ⟨S1x1, .i32⟩
  | 14 => ⟨S8192x1, .i32⟩
  | 15 => ⟨S8192x1, .i1⟩
  | 16 => ⟨S8192x1, .i1⟩
  | 17 => ⟨S_, .i1⟩
  | 18 => ⟨S8192, .i1⟩
  | 19 => ⟨S8192x18, .f32⟩
  | 20 => ⟨S8192x18, .i1⟩
  | 21 => ⟨S_, .f32⟩
  | 22 => ⟨S8192x18, .f32⟩
  | 23 => ⟨S8192x18, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S1, .i32⟩
  | 33 => ⟨S_, .i32⟩
  | 34 => ⟨S8192x1, .i32⟩
  | 35 => ⟨S8192x1, .i1⟩
  | 36 => ⟨S1x1, .i32⟩
  | 37 => ⟨S8192x1, .i32⟩
  | 38 => ⟨S8192x1, .i1⟩
  | 39 => ⟨S8192x1, .i1⟩
  | 40 => ⟨S_, .i1⟩
  | 41 => ⟨S8192, .i1⟩
  | 42 => ⟨S8192x18, .f32⟩
  | 43 => ⟨S8192x18, .i1⟩
  | 44 => ⟨S_, .f32⟩
  | 45 => ⟨S8192x18, .f32⟩
  | 46 => ⟨S8192x18, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S1, .i32⟩
  | 56 => ⟨S_, .i32⟩
  | 57 => ⟨S8192x1, .i32⟩
  | 58 => ⟨S8192x1, .i1⟩
  | 59 => ⟨S1x1, .i32⟩
  | 60 => ⟨S8192x1, .i32⟩
  | 61 => ⟨S8192x1, .i1⟩
  | 62 => ⟨S8192x1, .i1⟩
  | 63 => ⟨S_, .i1⟩
  | 64 => ⟨S8192, .i1⟩
  | 65 => ⟨S8192x1, .f32⟩
  | 66 => ⟨S8192x1, .i1⟩
  | 67 => ⟨S_, .f32⟩
  | 68 => ⟨S8192x1, .f32⟩
  | 69 => ⟨S8192x1, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S1, .i32⟩
  | 79 => ⟨S_, .i32⟩
  | 80 => ⟨S8192x1, .i32⟩
  | 81 => ⟨S8192x1, .i1⟩
  | 82 => ⟨S1x1, .i32⟩
  | 83 => ⟨S8192x1, .i32⟩
  | 84 => ⟨S8192x1, .i1⟩
  | 85 => ⟨S8192x1, .i1⟩
  | 86 => ⟨S_, .i1⟩
  | 87 => ⟨S8192, .i1⟩
  | 88 => ⟨S8192x1, .f32⟩
  | 89 => ⟨S8192x1, .i1⟩
  | 90 => ⟨S_, .f32⟩
  | 91 => ⟨S8192x1, .f32⟩
  | 92 => ⟨S8192x1, .f32⟩
  | 93 => ⟨S8192, .f32⟩
  | 94 => ⟨S16384, .f32⟩
  | _ => ⟨S16384x20, .f32⟩

abbrev hbmTy (i : Nat) : BufTy := match i / 128 with
  | 0 => hbmTy0_0 i
  | 1 => hbmTy0_1 i
  | _ => ⟨S16384x20, .f32⟩

abbrev bufTy : (tb : Table) → Fin (tcTables nBuf tb) → BufTy
  | .hbm, ⟨i, _⟩ => hbmTy i
  | .local _ .vmem, ⟨0, _⟩ => ⟨S2048x20, .f32⟩
  | .local _ .vmem, ⟨1, _⟩ => ⟨S2048x20, .f32⟩
  | .local _ .vmem, ⟨2, _⟩ => ⟨S2048x18, .f32⟩
  | .local _ .vmem, ⟨3, _⟩ => ⟨S2048x18, .f32⟩
  | .local _ .vmem, ⟨4, _⟩ => ⟨S2048x18, .f32⟩
  | .local _ .vmem, ⟨5, _⟩ => ⟨S2048x18, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S18x512, .f32⟩
  | .local _ .vmem, ⟨11, _⟩ => ⟨S18x512, .f32⟩
  | .local _ .vmem, ⟨12, _⟩ => ⟨S18x512, .f32⟩
  | .local _ .vmem, ⟨13, _⟩ => ⟨S1x512, .f32⟩
  | .local _ .vmem, ⟨14, _⟩ => ⟨S512x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | .local _ .vmem, ⟨19, _⟩ => ⟨S1x18, .f32⟩
  | .local _ .vmem, ⟨20, _⟩ => ⟨S2048, .f32⟩
  | .local _ .vmem, ⟨21, _⟩ => ⟨S2048, .f32⟩
  | .local _ .vmem, ⟨22, _⟩ => ⟨S2048x20, .f32⟩
  | .local _ .vmem, ⟨23, _⟩ => ⟨S2048x20, .f32⟩
  | .local _ .vmem, ⟨24, _⟩ => ⟨S2048x18, .f32⟩
  | .local _ .vmem, ⟨25, _⟩ => ⟨S2048x18, .f32⟩
  | .local _ .vmem, ⟨26, _⟩ => ⟨S2048x18, .f32⟩
  | .local _ .vmem, ⟨27, _⟩ => ⟨S2048x18, .f32⟩
  | .local _ .vmem, ⟨28, _⟩ => ⟨S2048x1, .f32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S18x512, .f32⟩
  | .local _ .vmem, ⟨33, _⟩ => ⟨S18x512, .f32⟩
  | .local _ .vmem, ⟨34, _⟩ => ⟨S18x512, .f32⟩
  | .local _ .vmem, ⟨35, _⟩ => ⟨S1x512, .f32⟩
  | .local _ .vmem, ⟨36, _⟩ => ⟨S512x256, .f32⟩
  | .local _ .vmem, ⟨37, _⟩ => ⟨S1x256, .f32⟩
  | .local _ .vmem, ⟨38, _⟩ => ⟨S256x128, .f32⟩
  | .local _ .vmem, ⟨39, _⟩ => ⟨S1x128, .f32⟩
  | .local _ .vmem, ⟨40, _⟩ => ⟨S1x128, .f32⟩
  | .local _ .vmem, ⟨41, _⟩ => ⟨S1x18, .f32⟩
  | .local _ .vmem, ⟨42, _⟩ => ⟨S2048, .f32⟩
  | .local _ .vmem, ⟨43, _⟩ => ⟨S2048, .f32⟩
  | .local _ .smem, ⟨0, _⟩ => ⟨S1x1, .f32⟩
  | .local _ .smem, ⟨1, _⟩ => ⟨S1x1, .f32⟩
  | _, _ => ⟨S16384x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v16 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v17 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v18 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v27 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v28 : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_cst : Ref sig .tc := ⟨.hbm, 195, rfl⟩
abbrev main_call6_v15 : Ref sig .tc := ⟨.hbm, 196, rfl⟩
abbrev main_v29 : Ref sig .tc := ⟨.hbm, 197, rfl⟩
abbrev main_call7_c : Ref sig .tc := ⟨.hbm, 198, rfl⟩
abbrev main_call7_v0 : Ref sig .tc := ⟨.hbm, 199, rfl⟩
abbrev main_call7_v1 : Ref sig .tc := ⟨.hbm, 200, rfl⟩
abbrev main_call7_c_0 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_c_1 : Ref sig .tc := ⟨.hbm, 206, rfl⟩
abbrev main_call7_c_2 : Ref sig .tc := ⟨.hbm, 207, rfl⟩
abbrev main_call7_v6 : Ref sig .tc := ⟨.hbm, 208, rfl⟩
abbrev main_call7_v7 : Ref sig .tc := ⟨.hbm, 209, rfl⟩
abbrev main_call7_v8 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_c_3 : Ref sig .tc := ⟨.hbm, 214, rfl⟩
abbrev main_call7_v12 : Ref sig .tc := ⟨.hbm, 215, rfl⟩
abbrev main_call7_v13 : Ref sig .tc := ⟨.hbm, 216, rfl⟩
abbrev main_call7_v14 : Ref sig .tc := ⟨.hbm, 217, rfl⟩
abbrev main_call7_cst : Ref sig .tc := ⟨.hbm, 218, rfl⟩
abbrev main_call7_v15 : Ref sig .tc := ⟨.hbm, 219, rfl⟩
abbrev main_v30 : Ref sig .tc := ⟨.hbm, 220, rfl⟩
abbrev main_v31 : Ref sig .tc := ⟨.hbm, 221, rfl⟩
abbrev main_v32 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_stg16_0 : Ref sig .tc := ⟨.vmem, 42, rfl⟩
abbrev cc1_stg16_1 : Ref sig .tc := ⟨.vmem, 43, rfl⟩
abbrev cc0_stg15_0 : Ref sig .tc := ⟨.smem, 0, rfl⟩
abbrev cc1_stg15_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem13_0 : DmaSem sig := 41
abbrev cc1_sem14_0 : DmaSem sig := 42
abbrev cc1_sem15_0 : DmaSem sig := 43
abbrev cc1_sem16_0 : DmaSem sig := 44
abbrev cc1_sem16_1 : DmaSem sig := 45

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S18x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x18 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x18 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x18 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S18x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S18x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S18x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x18 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .smem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2048 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S16384x20 : Shape := ⟨2, ![16384, 20]⟩
abbrev S1 : Shape := ⟨1, ![1]⟩
abbrev S1000000x1 : Shape := ⟨2, ![1000000, 1]⟩
abbrev S1x18 : Shape := ⟨2, ![1, 18]⟩
abbrev S1000000x18 : Shape := ⟨2, ![1000000, 18]⟩
abbrev S54x512 : Shape := ⟨2, ![54, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S16384x2 : Shape := ⟨2, ![16384, 2]⟩
abbrev S16384x18 : Shape := ⟨2, ![16384, 18]⟩
abbrev S_ : Shape := ⟨0, ![]⟩
abbrev S16384x2x1 : Shape := ⟨3, ![16384, 2, 1]⟩
abbrev S1x1x1 : Shape := ⟨3, ![1, 1, 1]⟩
abbrev S16384x2x18 : Shape := ⟨3, ![16384, 2, 18]⟩
abbrev S16384x1x18 : Shape := ⟨3, ![16384, 1, 18]⟩
abbrev S16384x3x18 : Shape := ⟨3, ![16384, 3, 18]⟩
abbrev S16384x1 : Shape := ⟨2, ![16384, 1]⟩
abbrev S1x1 : Shape := ⟨2, ![1, 1]⟩
abbrev S18x1 : Shape := ⟨2, ![18, 1]⟩
abbrev S16384 : Shape := ⟨1, ![16384]⟩
abbrev S16384x36 : Shape := ⟨2, ![16384, 36]⟩
abbrev S16384x54 : Shape := ⟨2, ![16384, 54]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x20, .f32⟩
  | .hbm, ⟨1, _⟩ => ⟨S1, .f32⟩
  | .hbm, ⟨2, _⟩ => ⟨S1000000x1, .f32⟩
  | .hbm, ⟨3, _⟩ => ⟨S1x18, .f32⟩
  | .hbm, ⟨4, _⟩ => ⟨S1, .f32⟩
  | .hbm, ⟨5, _⟩ => ⟨S1000000x18, .f32⟩
  | .hbm, ⟨6, _⟩ => ⟨S54x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S16384x2, .f32⟩
  | .hbm, ⟨15, _⟩ => ⟨S16384x2, .i32⟩
  | .hbm, ⟨16, _⟩ => ⟨S16384x18, .f32⟩
  | .hbm, ⟨17, _⟩ => ⟨S_, .i32⟩
  | .hbm, ⟨18, _⟩ => ⟨S16384x2, .i32⟩
  | .hbm, ⟨19, _⟩ => ⟨S16384x2, .i1⟩
  | .hbm, ⟨20, _⟩ => ⟨S_, .i32⟩
  | .hbm, ⟨21, _⟩ => ⟨S16384x2, .i32⟩
  | .hbm, ⟨22, _⟩ => ⟨S16384x2, .i32⟩
  | .hbm, ⟨23, _⟩ => ⟨S16384x2, .i32⟩
  | .hbm, ⟨24, _⟩ => ⟨S16384x2x1, .i32⟩
  | .hbm, ⟨25, _⟩ => ⟨S1, .i32⟩
  | .hbm, ⟨26, _⟩ => ⟨S_, .i32⟩
  | .hbm, ⟨27, _⟩ => ⟨S16384x2x1, .i32⟩
  | .hbm, ⟨28, _⟩ => ⟨S16384x2x1, .i1⟩
  | .hbm, ⟨29, _⟩ => ⟨S1x1x1, .i32⟩
  | .hbm, ⟨30, _⟩ => ⟨S16384x2x1, .i32⟩
  | .hbm, ⟨31, _⟩ => ⟨S16384x2x1, .i1⟩
  | .hbm, ⟨32, _⟩ => ⟨S16384x2x1, .i1⟩
  | .hbm, ⟨33, _⟩ => ⟨S_, .i1⟩
  | .hbm, ⟨34, _⟩ => ⟨S16384x2, .i1⟩
  | .hbm, ⟨35, _⟩ => ⟨S16384x2x18, .f32⟩
  | .hbm, ⟨36, _⟩ => ⟨S16384x2x18, .i1⟩
  | .hbm, ⟨37, _⟩ => ⟨S_, .f32⟩
  | .hbm, ⟨38, _⟩ => ⟨S16384x2x18, .f32⟩
  | .hbm, ⟨39, _⟩ => ⟨S16384x2x18, .f32⟩
  | .hbm, ⟨40, _⟩ => ⟨S16384x1x18, .f32⟩
  | .hbm, ⟨41, _⟩ => ⟨S16384x3x18, .f32⟩
  | .hbm, ⟨42, _⟩ => ⟨S_, .i32⟩
  | .hbm, ⟨43, _⟩ => ⟨S16384x2, .i32⟩
  | .hbm, ⟨44, _⟩ => ⟨S16384x2, .i1⟩
  | .hbm, ⟨45, _⟩ => ⟨S_, .i32⟩
  | .hbm, ⟨46, _⟩ => ⟨S16384x2, .i32⟩
  | .hbm, ⟨47, _⟩ => ⟨S16384x2, .i32⟩
  | .hbm, ⟨48, _⟩ => ⟨S16384x2, .i32⟩
  | .hbm, ⟨49, _⟩ => ⟨S16384x2x1, .i32⟩
  | .hbm, ⟨50, _⟩ => ⟨S1, .i32⟩
  | .hbm, ⟨51, _⟩ => ⟨S_, .i32⟩
  | .hbm, ⟨52, _⟩ => ⟨S16384x2x1, .i32⟩
  | .hbm, ⟨53, _⟩ => ⟨S16384x2x1, .i1⟩
  | .hbm, ⟨54, _⟩ => ⟨S1x1x1, .i32⟩
  | .hbm, ⟨55, _⟩ => ⟨S16384x2x1, .i32⟩
  | .hbm, ⟨56, _⟩ => ⟨S16384x2x1, .i1⟩
  | .hbm, ⟨57, _⟩ => ⟨S16384x2x1, .i1⟩
  | .hbm, ⟨58, _⟩ => ⟨S_, .i1⟩
  | .hbm, ⟨59, _⟩ => ⟨S16384x2, .i1⟩
  | .hbm, ⟨60, _⟩ => ⟨S16384x2x1, .f32⟩
  | .hbm, ⟨61, _⟩ => ⟨S16384x2x1, .i1⟩
  | .hbm, ⟨62, _⟩ => ⟨S_, .f32⟩
  | .hbm, ⟨63, _⟩ => ⟨S16384x2x1, .f32⟩
  | .hbm, ⟨64, _⟩ => ⟨S16384x2x1, .f32⟩
  | .hbm, ⟨65, _⟩ => ⟨S_, .f32⟩
  | .hbm, ⟨66, _⟩ => ⟨S16384x1, .f32⟩
  | .hbm, ⟨67, _⟩ => ⟨S1x1, .f32⟩
  | .hbm, ⟨68, _⟩ => ⟨S16384x1, .f32⟩
  | .hbm, ⟨69, _⟩ => ⟨S16384x1, .f32⟩
  | .hbm, ⟨70, _⟩ => ⟨S18x1, .f32⟩
  | .hbm, ⟨71, _⟩ => ⟨S16384x1, .f32⟩
  | .hbm, ⟨72, _⟩ => ⟨S16384x1, .f32⟩
  | .hbm, ⟨73, _⟩ => ⟨S1x1, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x18, .f32⟩
  | .hbm, ⟨78, _⟩ => ⟨S16384x18, .f32⟩
  | .hbm, ⟨79, _⟩ => ⟨S16384x3x18, .f32⟩
  | .hbm, ⟨80, _⟩ => ⟨S_, .f32⟩
  | .hbm, ⟨81, _⟩ => ⟨S16384x18, .f32⟩
  | .hbm, ⟨82, _⟩ => ⟨S16384x18, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x36, .f32⟩
  | .hbm, ⟨91, _⟩ => ⟨S16384x54, .f32⟩
  | .hbm, ⟨92, _⟩ => ⟨S16384x512, .f32⟩
  | .hbm, ⟨93, _⟩ => ⟨S1x512, .f32⟩
  | .hbm, ⟨94, _⟩ => ⟨S16384x512, .f32⟩
  | .hbm, ⟨95, _⟩ => ⟨S16384x512, .f32⟩
  | .hbm, ⟨96, _⟩ => ⟨S_, .f32⟩
  | .hbm, ⟨97, _⟩ => ⟨S16384x512, .f32⟩
  | .hbm, ⟨98, _⟩ => ⟨S16384x512, .f32⟩
  | .hbm, ⟨99, _⟩ => ⟨S16384x256, .f32⟩
  | .hbm, ⟨100, _⟩ => ⟨S1x256, .f32⟩
  | .hbm, ⟨101, _⟩ => ⟨S16384x256, .f32⟩
  | .hbm, ⟨102, _⟩ => ⟨S16384x256, .f32⟩
  | .hbm, ⟨103, _⟩ => ⟨S_, .f32⟩
  | .hbm, ⟨104, _⟩ => ⟨S16384x256, .f32⟩
  | .hbm, ⟨105, _⟩ => ⟨S16384x256, .f32⟩
  | .hbm, ⟨106, _⟩ => ⟨S16384x128, .f32⟩
  | .hbm, ⟨107, _⟩ => ⟨S1x128, .f32⟩
  | .hbm, ⟨108, _⟩ => ⟨S16384x128, .f32⟩
  | .hbm, ⟨109, _⟩ => ⟨S16384x128, .f32⟩
  | .hbm, ⟨110, _⟩ => ⟨S_, .f32⟩
  | .hbm, ⟨111, _⟩ => ⟨S16384x128, .f32⟩
  | .hbm, ⟨112, _⟩ => ⟨S16384x128, .f32⟩
  | .hbm, ⟨113, _⟩ => ⟨S16384x1, .f32⟩
  | .hbm, ⟨114, _⟩ => ⟨S1x1, .f32⟩
  | .hbm, ⟨115, _⟩ => ⟨S16384x1, .f32⟩
  | .hbm, ⟨116, _⟩ => ⟨S16384x1, .f32⟩
  | .hbm, ⟨117, _⟩ => ⟨S16384, .f32⟩
  | .hbm, ⟨118, _⟩ => ⟨S16384, .f32⟩
  | .hbm, ⟨119, _⟩ => ⟨S16384, .f32⟩
  | .hbm, ⟨120, _⟩ => ⟨S16384, .f32⟩
  | .hbm, ⟨121, _⟩ => ⟨S16384, .f32⟩
  | .hbm, ⟨122, _⟩ => ⟨S_, .f32⟩
  | .hbm, ⟨123, _⟩ => ⟨S16384, .f32⟩
  | .hbm, ⟨124, _⟩ => ⟨S16384, .f32⟩
  | .hbm, ⟨125, _⟩ => ⟨S_, .f32⟩
  | .hbm, ⟨126, _⟩ => ⟨S16384, .f32⟩
  | .hbm, ⟨127, _⟩ => ⟨S16384, .f32⟩
  | _, _ => ⟨S16384x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v6 : Ref sig .tc := ⟨.hbm, 64, rfl⟩
abbrev main_cst : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_cst_0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_cst_1 : Ref sig .tc := ⟨.hbm, 80, rfl⟩
abbrev main_v20 : Ref sig .tc := ⟨.hbm, 81, rfl⟩
abbrev main_v21 : Ref sig .tc := ⟨.hbm, 82, rfl⟩
abbrev main_cst_2 : Ref sig .tc := ⟨.hbm, 83, rfl⟩
abbrev main_v22 : Ref sig .tc := ⟨.hbm, 84, rfl⟩
abbrev main_v23 : Ref sig .tc := ⟨.hbm, 85, rfl⟩
abbrev main_cst_3 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_call2_cst : Ref sig .tc := ⟨.hbm, 96, rfl⟩
abbrev main_call2_v0 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_call3_cst : Ref sig .tc := ⟨.hbm, 103, rfl⟩
abbrev main_call3_v0 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_call4_cst : Ref sig .tc := ⟨.hbm, 110, rfl⟩
abbrev main_call4_v0 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_4 : Ref sig .tc := ⟨.hbm, 122, rfl⟩
abbrev main_v53 : Ref sig .tc := ⟨.hbm, 123, rfl⟩
abbrev main_v54 : Ref sig .tc := ⟨.hbm, 124, rfl⟩
abbrev main_cst_5 : Ref sig .tc := ⟨.hbm, 125, rfl⟩
abbrev main_v55 : Ref sig .tc := ⟨.hbm, 126, rfl⟩
abbrev main_v56 : Ref sig .tc := ⟨.hbm, 127, rfl⟩

abbrev nD : Nat := 1
abbrev τ : Topo := Topo.v7x

variable {F : FTy → Type} [FloatOps F]
-- ==== Proof.Spec.lean ====
/-
  The mathematics of the model, over the extended reals and apart from any program: what one row of the result is. A row
  has a dense feature vector `g` (18 numbers), two embedding rows `e0`, `e1` (18 numbers each) and two weights `f0`, `f1`
  read from the tables at two indices; its result is the logistic function of a factorization-machine term plus a
  three-layer network with rectified hidden layers. `takeRow` is the reading of a table row, `logit` the number under the
  logistic function in the order the kernel adds it, and `row` the result of a row of the fourteen arguments.
-/
module

public import Idealize.ShloMosaic.Lib.Pointwise

@[expose] public section

noncomputable section

open scoped BigOperators

namespace Fm

open Idealize.ShloMosaic

/-- An index word with a negative one counted from the table's end: 1000000 is added to a word below zero. -/
def wrap (w : BitVec 32) : BitVec 32 := Scalar.select (IntOp.cmpi .slt w 0#32) (IntOp.addi w 1000000#32) w

/-- The bit saying that a word is a row number of the table: at least 0 and at most 999999, read signed. -/
def inside (w : BitVec 32) : BitVec 1 := IntOp.andi (IntOp.cmpi .sge w 0#32) (IntOp.cmpi .sle w 999999#32)

/-- The table row a word names, read signed and clamped into the table. -/
def rowOf (w : BitVec 32) : Fin 1000000 := ⟨min w.toInt.toNat 999999, by omega⟩

/-- Element `k` of the table row named by the word `w`, or the fill value where `w` names no row. -/
def takeRow {C : Nat} (T : (⟨2, ![1000000, C]⟩ : Shape).Idx → EReal) (w : BitVec 32) (k : Fin C) : EReal :=
  Scalar.select (inside (wrap w)) (T (ix2 (rowOf (wrap w)) k)) (Ideal.ofBits .f32 0x7FC00000#32)

/-- A layer's output from its weighted sum: the bias added, then the larger of that and zero. -/
def relu {n : Nat} (s b : Fin n → EReal) (j : Fin n) : EReal := max (s j + b j) 0

/-- The weighted sums of a layer: the product of a row vector and a matrix. -/
def times {m n : Nat} (x : Fin m → EReal) (W : Fin m → Fin n → EReal) (j : Fin n) : EReal := ∑ k, x k * W k j

/-- The second and third hidden layers and the output weights, from the first layer's weighted sums. -/
def tower (s1 : Fin 512 → EReal) (b1 : Fin 512 → EReal) (W2 : Fin 512 → Fin 256 → EReal) (b2 : Fin 256 → EReal)
    (W3 : Fin 256 → Fin 128 → EReal) (b3 : Fin 128 → EReal) (w4 : Fin 128 → EReal) : EReal :=
  ∑ j, relu (times (relu (times (relu s1 b1) W2) b2) W3) b3 j * w4 j

/-- Half of the sum over the 18 coordinates of the square of the three vectors' sum less the sum of their squares. -/
def pair (e0 e1 g : Fin 18 → EReal) : EReal :=
  Ideal.ofBits .f32 0x3F000000#32 * ∑ k, ((e0 k + e1 k + g k) * (e0 k + e1 k + g k) - (e0 k * e0 k + e1 k * e1 k + g k * g k))

/-- The number under the logistic function, added up as the kernel does; `c` is the sum of the three scalar biases and
    `A`, `B`, `C` are the three thirds of the first layer's weights. -/
def logit (e0 e1 g lw : Fin 18 → EReal) (f0 f1 c : EReal) (A B C : Fin 18 → Fin 512 → EReal) (b1 : Fin 512 → EReal)
    (W2 : Fin 512 → Fin 256 → EReal) (b2 : Fin 256 → EReal) (W3 : Fin 256 → Fin 128 → EReal) (b3 w4 : Fin 128 → EReal) : EReal :=
  pair e0 e1 g + f0 + f1 + (∑ k, g k * lw k)
    + tower (fun j => times e0 A j + times e1 B j + times g C j) b1 W2 b2 W3 b3 w4 + c

/-- Row `r`'s index word in column `q` (0 or 1) of the input. -/
abbrev word (x : (⟨2, ![16384, 20]⟩ : Shape).Idx → EReal) (r : Fin 16384) (q : Fin 2) : BitVec 32 :=
  FloatOps.fptosi (F := Ideal) (φ := .f32) 32 (x (ix2 r ⟨q.val, by omega⟩))

/-- Row `r`'s dense features: columns 2 to 19 of the input. -/
abbrev dense (x : (⟨2, ![16384, 20]⟩ : Shape).Idx → EReal) (r : Fin 16384) (k : Fin 18) : EReal := x (ix2 r ⟨2 + k.val, by omega⟩)

/-- The 18 rows of the first layer's weights from row `o` on. -/
abbrev third (W1 : (⟨2, ![54, 512]⟩ : Shape).Idx → EReal) (o : Nat) (ho : o ≤ 36) (k : Fin 18) (j : Fin 512) : EReal :=
  W1 (ix2 ⟨o + k.val, by omega⟩ j)

/-- The model's result at row `r`, from its fourteen arguments. -/
def row (x : (⟨2, ![16384, 20]⟩ : Shape).Idx → EReal) (bias : (⟨1, ![1]⟩ : Shape).Idx → EReal) (fc : (⟨2, ![1000000, 1]⟩ : Shape).Idx → EReal)
    (lw : (⟨2, ![1, 18]⟩ : Shape).Idx → EReal) (lb : (⟨1, ![1]⟩ : Shape).Idx → EReal) (emb : (⟨2, ![1000000, 18]⟩ : Shape).Idx → EReal)
    (W1 : (⟨2, ![54, 512]⟩ : Shape).Idx → EReal) (b1 : (⟨1, ![512]⟩ : Shape).Idx → EReal) (W2 : (⟨2, ![512, 256]⟩ : Shape).Idx → EReal)
    (b2 : (⟨1, ![256]⟩ : Shape).Idx → EReal) (W3 : (⟨2, ![256, 128]⟩ : Shape).Idx → EReal) (b3 : (⟨1, ![128]⟩ : Shape).Idx → EReal)
    (W4 : (⟨2, ![128, 1]⟩ : Shape).Idx → EReal) (b4 : (⟨1, ![1]⟩ : Shape).Idx → EReal) (r : Fin 16384) : EReal :=
  Ideal.logistic (logit (takeRow emb (word x r 0)) (takeRow emb (word x r 1)) (dense x r) (fun k => lw (ix2 0 k))
    (takeRow fc (word x r 0) 0) (takeRow fc (word x r 1) 0) (bias (ix1 0) + lb (ix1 0) + b4 (ix1 0))
    (third W1 0 (by decide)) (third W1 18 (by decide)) (third W1 36 (by decide)) (fun j => b1 (ix1 j))
    (fun k j => W2 (ix2 k j)) (fun j => b2 (ix1 j)) (fun k j => W3 (ix2 k j)) (fun j => b3 (ix1 j)) (fun j => W4 (ix2 j 0)))

/-- A sum over 54 indices is the sum of its three thirds. -/
theorem sum_thirds (f : Fin 54 → EReal) :
    ∑ k, f k = (∑ k : Fin 18, f ⟨0 + k.val, by omega⟩) + (∑ k : Fin 18, f ⟨18 + k.val, by omega⟩) + ∑ k : Fin 18, f ⟨36 + k.val, by omega⟩ := by
  rw [show (∑ k, f k) = ∑ k : Fin (18 + 18 + 18), f k from rfl, Fin.sum_univ_add, Fin.sum_univ_add]
  refine congrArg₂ (· + ·) (congrArg₂ (· + ·) (Finset.sum_congr rfl fun k _ => ?_) rfl) rfl
  exact congrArg f (Fin.ext (Nat.zero_add k.val).symm)

end Fm

end
-- ==== Proof.Rows.lean ====
/-
  Table rows read through `stablehlo.gather`: the row gather of a table by a column of row numbers, one per result row
  (`gather_column_apply`) or two per result row (`gather_pairs_apply`), read at an index; and an `and`-reduction over an
  axis of length one, which is the element itself.
-/
module

public import proofs.«01_k».proof.Proof.Spec

@[expose] public section

noncomputable section

namespace Fm

open Idealize.ShloMosaic

/-- The gather of whole rows of an `[N, C]` table by `n` row numbers given as an `[n, 1]` array. -/
abbrev columnDims (N C n : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ :=
  { offsetDims := [1], collapsedSliceDims := [0], operandBatchingDims := [], startIndicesBatchingDims := [],
    startIndexMap := [0], indexVectorDim := 1, sliceSizes := ![1, C], wf := wf }

/-- The same with two row numbers per result row, given as an `[n, 2, 1]` array. -/
abbrev pairsDims (N C n : Nat) (wf : GatherDims.WF ⟨2, ![N, C]⟩ ⟨3, ![n, 2, 1]⟩ ⟨3, ![n, 2, C]⟩ [2] [0] [] [0] [] 2 ![1, C]) :
    GatherDims ⟨2, ![N, C]⟩ ⟨3, ![n, 2, 1]⟩ ⟨3, ![n, 2, C]⟩ :=
  { offsetDims := [2], collapsedSliceDims := [0], operandBatchingDims := [], startIndicesBatchingDims := [],
    startIndexMap := [0], indexVectorDim := 2, sliceSizes := ![1, C], wf := wf }

/-- Element `(r, k)` of the gathered rows is element `k` of the table row named by word `r`. -/
theorem gather_column_apply {C n : Nat} {α : Type}
    (wf : GatherDims.WF ⟨2, ![1000000, C]⟩ ⟨2, ![n, 1]⟩ ⟨2, ![n, C]⟩ [1] [0] [] [0] [] 1 ![1, C])
    (T : (⟨2, ![1000000, C]⟩ : Shape).Idx → α) (w : IVec ⟨2, ![n, 1]⟩ 32) (r : Fin n) (k : Fin C) :
    Host.gather (columnDims 1000000 C n wf) T w (ix2 r k) = T (ix2 (rowOf (w (ix2 r 0))) k) := by
  refine congrArg T (funext fun a => Fin.ext ?_)
  show (columnDims 1000000 C n wf).start _ _ a + (columnDims 1000000 C n wf).batchCoord _ a
    + (columnDims 1000000 C n wf).offCoord _ a = _
  rw [GatherDims.batchCoord_eq_zero _ _ _ List.not_mem_nil]
  match a with
  | ⟨0, _⟩ =>
    have hs : (0 : Fin 2) ∈ (columnDims 1000000 C n wf).startIndexMap := List.mem_singleton.2 rfl
    have hw : (columnDims 1000000 C n wf).siIdx (ix2 r k) ⟨List.idxOf (0 : Fin 2) (columnDims 1000000 C n wf).startIndexMap,
        List.idxOf_lt_length_iff.2 hs⟩ = ix2 r 0 := by
      funext b; match b with | ⟨0, _⟩ => rfl | ⟨1, _⟩ => rfl
    have ho : (columnDims 1000000 C n wf).offCoord (ix2 r k) 0 = 0 :=
      GatherDims.offCoord_eq_zero _ _ _ fun h => ((GatherDims.mem_sKept _ _).1 h).1 (List.mem_singleton.2 rfl)
    show (columnDims 1000000 C n wf).start (ix2 r k) w 0 + 0 + (columnDims 1000000 C n wf).offCoord (ix2 r k) 0 = _
    rw [ho]
    unfold GatherDims.start
    rw [dif_pos hs, hw]
    rfl
  | ⟨1, _⟩ =>
    have hs : (columnDims 1000000 C n wf).start (ix2 r k) w 1 = 0 :=
      dif_neg fun h => Nat.one_ne_zero (congrArg Fin.val (List.mem_singleton.1 h))
    show (columnDims 1000000 C n wf).start (ix2 r k) w 1 + 0 + (columnDims 1000000 C n wf).offCoord (ix2 r k) 1 = _
    rw [hs, Nat.zero_add]
    unfold GatherDims.offCoord
    rw [dif_pos ((GatherDims.mem_sKept _ _).2 ⟨fun h => Nat.one_ne_zero (congrArg Fin.val (List.mem_singleton.1 h)), List.not_mem_nil⟩)]
    rfl

/-- Element `(r, q, k)` of the gathered pairs of rows is element `k` of the table row named by word `(r, q)`. -/
theorem gather_pairs_apply {C n : Nat} {α : Type}
    (wf : GatherDims.WF ⟨2, ![1000000, C]⟩ ⟨3, ![n, 2, 1]⟩ ⟨3, ![n, 2, C]⟩ [2] [0] [] [0] [] 2 ![1, C])
    (T : (⟨2, ![1000000, C]⟩ : Shape).Idx → α) (w : IVec ⟨3, ![n, 2, 1]⟩ 32) (r : Fin n) (q : Fin 2) (k : Fin C) :
    Host.gather (pairsDims 1000000 C n wf) T w (ix3 r q k) = T (ix2 (rowOf (w (ix3 r q 0))) k) := by
  refine congrArg T (funext fun a => Fin.ext ?_)
  show (pairsDims 1000000 C n wf).start _ _ a + (pairsDims 1000000 C n wf).batchCoord _ a
    + (pairsDims 1000000 C n wf).offCoord _ a = _
  rw [GatherDims.batchCoord_eq_zero _ _ _ List.not_mem_nil]
  match a with
  | ⟨0, _⟩ =>
    have hs : (0 : Fin 2) ∈ (pairsDims 1000000 C n wf).startIndexMap := List.mem_singleton.2 rfl
    have hw : (pairsDims 1000000 C n wf).siIdx (ix3 r q k) ⟨List.idxOf (0 : Fin 2) (pairsDims 1000000 C n wf).startIndexMap,
        List.idxOf_lt_length_iff.2 hs⟩ = ix3 r q 0 := by
      funext b; match b with | ⟨0, _⟩ => rfl | ⟨1, _⟩ => rfl | ⟨2, _⟩ => rfl
    have ho : (pairsDims 1000000 C n wf).offCoord (ix3 r q k) 0 = 0 :=
      GatherDims.offCoord_eq_zero _ _ _ fun h => ((GatherDims.mem_sKept _ _).1 h).1 (List.mem_singleton.2 rfl)
    show (pairsDims 1000000 C n wf).start (ix3 r q k) w 0 + 0 + (pairsDims 1000000 C n wf).offCoord (ix3 r q k) 0 = _
    rw [ho]
    unfold GatherDims.start
    rw [dif_pos hs, hw]
    rfl
  | ⟨1, _⟩ =>
    have hs : (pairsDims 1000000 C n wf).start (ix3 r q k) w 1 = 0 :=
      dif_neg fun h => Nat.one_ne_zero (congrArg Fin.val (List.mem_singleton.1 h))
    show (pairsDims 1000000 C n wf).start (ix3 r q k) w 1 + 0 + (pairsDims 1000000 C n wf).offCoord (ix3 r q k) 1 = _
    rw [hs, Nat.zero_add]
    unfold GatherDims.offCoord
    rw [dif_pos ((GatherDims.mem_sKept _ _).2 ⟨fun h => Nat.one_ne_zero (congrArg Fin.val (List.mem_singleton.1 h)), List.not_mem_nil⟩)]
    rfl

/-- The `and` of one bit, from the bit 1, is that bit. -/
theorem fold_andi_one (f : Fin 1 → BitVec 1) : (Finset.univ : Finset (Fin 1)).fold IntOp.andi 1#1 f = f 0 := by
  rw [Finset.univ_unique, Finset.fold_singleton]
  show f default &&& 1#1 = f 0
  rw [show (default : Fin 1) = 0 from rfl]
  generalize f 0 = b
  revert b
  decide

end Fm

end
-- ==== Proof.Takes.lean ====
/-
  The rows the kernel's host program takes from its two tables: what a take computes from the table and the words, and
  that each of the program's eight takes computes it.
-/
module

public import proofs.«01_k».proof.Proof.Rows
public import proofs.«01_k».proof.Proof.Gen.KernelIdeal.Launch

@[expose] public section

noncomputable section

open scoped BigOperators

namespace Cert.KernelIdeal.Fm

open Cert.KernelIdeal Cert.KernelIdeal.Gen Idealize.ShloMosaic Idealize.ShloMosaic.TcCoe Idealize.SL.Sem _root_.Fm

/-- The words read as row numbers, a negative one counted from the table's end, as one column. -/
def column (w : (⟨S8192, .i32⟩ : BufTy).Contents (Elt Ideal)) : (⟨S8192x1, .i32⟩ : BufTy).Contents (Elt Ideal) :=
  broadcastInDim S8192x1 ![0] bcast_S8192_S8192x1_0
    (select (cmpi .slt w (broadcastInDim S8192 ![] bcast_S_S8192 (constantI S_ 32 0#32)))
      (addi w (broadcastInDim S8192 ![] bcast_S_S8192 (constantI S_ 32 1000000#32))) w)

/-- The bits that say which row numbers lie in the table. -/
def within (I : (⟨S8192x1, .i32⟩ : BufTy).Contents (Elt Ideal)) : (⟨S8192, .i1⟩ : BufTy).Contents (Elt Ideal) :=
  Host.reduce IntOp.andi
    (andi (cmpi .sge I (broadcastInDim S8192x1 ![] bcast_S_S8192x1 (constantI S_ 32 0#32)))
      (cmpi .sle I (broadcastInDim S8192x1 ![0, 1] bcast_S1x1_S8192x1_0_1 (broadcastInDim S1x1 ![1] bcast_S1_S1x1_1 (constantI S1 32 999999#32)))))
    (constantI S_ 1 1#1) reducesTo_S8192x1_S8192_d1 h_S_

/-- The rows of a table of 18 columns that the words name. -/
def take18 (T : (⟨S1000000x18, .f32⟩ : BufTy).Contents (Elt Ideal)) (w : (⟨S8192, .i32⟩ : BufTy).Contents (Elt Ideal)) :
    (⟨S8192x18, .f32⟩ : BufTy).Contents (Elt Ideal) :=
  select (broadcastInDim S8192x18 ![0] bcast_S8192_S8192x18_0 (within (column w)))
    (Host.gather gather_S1000000x18_S8192x1_S8192x18_1_0_n_n_0_1_118 T (column w))
    (broadcastInDim S8192x18 ![] bcast_S_S8192x18 (constant (F := Ideal) S_ .f32 0x7FC00000#32))

/-- The rows of a table of one column that the words name. -/
def take1 (T : (⟨S1000000x1, .f32⟩ : BufTy).Contents (Elt Ideal)) (w : (⟨S8192, .i32⟩ : BufTy).Contents (Elt Ideal)) :
    (⟨S8192x1, .f32⟩ : BufTy).Contents (Elt Ideal) :=
  select (broadcastInDim S8192x1 ![0] bcast_S8192_S8192x1_0 (within (column w)))
    (Host.gather gather_S1000000x1_S8192x1_S8192x1_1_0_n_n_0_1_11 T (column w))
    (broadcastInDim S8192x1 ![] bcast_S_S8192x1 (constant (F := Ideal) S_ .f32 0x7FC00000#32))

/-- A row number of the column is its word's. -/
theorem column_apply (w : (⟨S8192, .i32⟩ : BufTy).Contents (Elt Ideal)) (r : Fin 8192) : column w (ix2 r 0) = wrap (w (ix1 r)) := by
  pointwise [column, wrap]

/-- A bit of the mask is its row number's. -/
theorem within_apply (w : (⟨S8192, .i32⟩ : BufTy).Contents (Elt Ideal)) (r : Fin 8192) : within (column w) (ix1 r) = inside (wrap (w (ix1 r))) := by
  rw [← column_apply]
  pointwise [within, inside]
  rw [fold_andi_one]

/-- An element of the rows taken from a table of 18 columns. -/
theorem take18_apply (T : (⟨S1000000x18, .f32⟩ : BufTy).Contents (Elt Ideal)) (w : (⟨S8192, .i32⟩ : BufTy).Contents (Elt Ideal)) (r : Fin 8192)
    (k : Fin 18) : take18 T w (ix2 r k) = takeRow T (w (ix1 r)) k := by
  have hg : Host.gather gather_S1000000x18_S8192x1_S8192x18_1_0_n_n_0_1_118 T (column w) (ix2 r k) = T (ix2 (rowOf (wrap (w (ix1 r)))) k) := by
    rw [← column_apply]
    exact gather_column_apply gather_S1000000x18_S8192x1_S8192x18_1_0_n_n_0_1_118_wf T (column w) r k
  have hm := within_apply w r
  pointwise [take18, takeRow]
  rw [hm, hg]

/-- An element of the rows taken from a table of one column. -/
theorem take1_apply (T : (⟨S1000000x1, .f32⟩ : BufTy).Contents (Elt Ideal)) (w : (⟨S8192, .i32⟩ : BufTy).Contents (Elt Ideal)) (r : Fin 8192) :
    take1 T w (ix2 r 0) = takeRow T (w (ix1 r)) 0 := by
  have hg : Host.gather gather_S1000000x1_S8192x1_S8192x1_1_0_n_n_0_1_11 T (column w) (ix2 r 0) = T (ix2 (rowOf (wrap (w (ix1 r)))) 0) := by
    rw [← column_apply]
    exact gather_column_apply gather_S1000000x1_S8192x1_S8192x1_1_0_n_n_0_1_11_wf T (column w) r 0
  have hm := within_apply w r
  pointwise [take1, takeRow]
  rw [hm, hg]

variable (W : Valuation τ sig (Elt Ideal))

set_option maxRecDepth 8192 in
/-- `main_v16` is taken from `main_arg5` by the words `main_v12`. -/
theorem after_main_v16 : StableHlo.after hostOps0_1 W (Proc.devRef .tc main_v16) = take18 (W (Proc.devRef .tc main_arg5)) (W (Proc.devRef .tc main_v12)) := by
  simp only [hostOps0_1, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v17` is taken from `main_arg5` by the words `main_v15`. -/
theorem after_main_v17 : StableHlo.after hostOps0_2 W (Proc.devRef .tc main_v17) = take18 (W (Proc.devRef .tc main_arg5)) (W (Proc.devRef .tc main_v15)) := by
  simp only [hostOps0_2, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v18` is taken from `main_arg2` by the words `main_v12`. -/
theorem after_main_v18 : StableHlo.after hostOps0_3 W (Proc.devRef .tc main_v18) = take1 (W (Proc.devRef .tc main_arg2)) (W (Proc.devRef .tc main_v12)) := by
  simp only [hostOps0_3, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v19` is taken from `main_arg2` by the words `main_v15`. -/
theorem after_main_v19 : StableHlo.after hostOps0_4 W (Proc.devRef .tc main_v19) = take1 (W (Proc.devRef .tc main_arg2)) (W (Proc.devRef .tc main_v15)) := by
  simp only [hostOps0_4, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v27` is taken from `main_arg5` by the words `main_v23`. -/
theorem after_main_v27 : StableHlo.after hostOps1_1 W (Proc.devRef .tc main_v27) = take18 (W (Proc.devRef .tc main_arg5)) (W (Proc.devRef .tc main_v23)) := by
  simp only [hostOps1_1, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v28` is taken from `main_arg5` by the words `main_v26`. -/
theorem after_main_v28 : StableHlo.after hostOps1_2 W (Proc.devRef .tc main_v28) = take18 (W (Proc.devRef .tc main_arg5)) (W (Proc.devRef .tc main_v26)) := by
  simp only [hostOps1_2, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v29` is taken from `main_arg2` by the words `main_v23`. -/
theorem after_main_v29 : StableHlo.after hostOps1_3 W (Proc.devRef .tc main_v29) = take1 (W (Proc.devRef .tc main_arg2)) (W (Proc.devRef .tc main_v23)) := by
  simp only [hostOps1_3, StableHlo.TRef.binary, StableHlo.TRef.nullary, StableHlo.TRef.ternary, StableHlo.TRef.unary, StableHlo.TRef.toBuf,
    StableHlo.TRef.ofBuf, cast_eq]
  after_results_simp <;> rfl

set_option maxRecDepth 8192 in
/-- `main_v30` is taken from `main_arg2` by the words `main_v26`. -/
theorem after_main_v30 : StableHlo.after hostOps1_4 W (Proc.devRef .tc main_v30) = take1 (W (Proc.devRef .tc main_arg2)) (W (Proc.devRef .tc main_v26)) := by
  simp only [hostOps1_4, StableHlo.TRef.binary, StableHlo.TRef.nullary, StableHlo.TRef.ternary, StableHlo.TRef.unary, StableHlo.TRef.toBuf,
    StableHlo.TRef.ofBuf, cast_eq]
  after_results_simp <;> rfl

end Cert.KernelIdeal.Fm

end
-- ==== Proof.Block.lean ====
/-
  What one block of the kernel computes: element `r` of the block a grid point stores, from the blocks it loads. Both
  kernel calls run the same body, so the second call's payloads are the first's.
-/
module

public import proofs.«01_k».proof.Proof.Spec
public import proofs.«01_k».proof.Proof.Gen.KernelIdeal.Skeleton

@[expose] public section

noncomputable section

open scoped BigOperators

namespace Cert.KernelIdeal.Fm

open Cert.KernelIdeal Cert.KernelIdeal.Gen Idealize.ShloMosaic Idealize.SL.Sem _root_.Fm

/-- The stored block as one term of the loaded blocks. -/
def block (x : FVec Ideal S2048x20 .f32) (e0 e1 : FVec Ideal S2048x18 .f32) (f0 f1 : FVec Ideal S2048x1 .f32) (lw : FVec Ideal S1x18 .f32)
    (A B C : FVec Ideal S18x512 .f32) (b1 : FVec Ideal S1x512 .f32) (W2 : FVec Ideal S512x256 .f32) (b2 : FVec Ideal S1x256 .f32)
    (W3 : FVec Ideal S256x128 .f32) (b3 w4 : FVec Ideal S1x128 .f32) (c : EReal) : FVec Ideal S2048 .f32 :=
  k0_pay6 (F := Ideal) (k0_pay1 x) (k0_pay4 x e0 e1 f0 f1 lw) (k0_pay5 e0 e1 A B) C b1 W2 b2 W3 b3 w4 c

/-- Element `r` of the stored block is the logistic function of the row's number. -/
theorem block_apply (x : FVec Ideal S2048x20 .f32) (e0 e1 : FVec Ideal S2048x18 .f32) (f0 f1 : FVec Ideal S2048x1 .f32) (lw : FVec Ideal S1x18 .f32)
    (A B C : FVec Ideal S18x512 .f32) (b1 : FVec Ideal S1x512 .f32) (W2 : FVec Ideal S512x256 .f32) (b2 : FVec Ideal S1x256 .f32)
    (W3 : FVec Ideal S256x128 .f32) (b3 w4 : FVec Ideal S1x128 .f32) (c : EReal) (r : Fin 2048) :
    block x e0 e1 f0 f1 lw A B C b1 W2 b2 W3 b3 w4 c (ix1 r)
      = Ideal.logistic (logit (fun k => e0 (ix2 r k)) (fun k => e1 (ix2 r k)) (fun k => x (ix2 r ⟨2 + k.val, by omega⟩)) (fun k => lw (ix2 0 k))
          (f0 (ix2 r 0)) (f1 (ix2 r 0)) c (fun k j => A (ix2 k j)) (fun k j => B (ix2 k j)) (fun k j => C (ix2 k j)) (fun j => b1 (ix2 0 j))
          (fun k j => W2 (ix2 k j)) (fun j => b2 (ix2 0 j)) (fun k j => W3 (ix2 k j)) (fun j => b3 (ix2 0 j)) (fun j => w4 (ix2 0 j))) := by
  pointwise [block, k0_pay1, k0_pay2, k0_pay3, k0_pay4, k0_pay5, k0_pay6, logit, pair, tower, times, relu]

end Cert.KernelIdeal.Fm

end
-- ==== Proof.Out.lean ====
/-
  What each grid point of the two kernel calls leaves in its output block: the block function of the input blocks.
-/
module

public import proofs.«01_k».proof.Proof.Block
public import proofs.«01_k».proof.Proof.Gen.KernelIdeal.Frame
public import Idealize.ShloMosaic.Lib.Pipeline.Value

@[expose] public section

noncomputable section

open scoped BigOperators

namespace Cert.KernelIdeal.Fm

open Cert.KernelIdeal Cert.KernelIdeal.Gen Idealize.ShloMosaic Idealize.ShloMosaic.TcCoe Idealize.SL.Sem _root_.Fm

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The payload of the whole-window loads is the block function of the windows' contents. -/
theorem block_loads (x : Vec Ideal S2048x20 .f32) (e0 : Vec Ideal S2048x18 .f32) (e1 : Vec Ideal S2048x18 .f32) (f0 : Vec Ideal S2048x1 .f32) (f1 : Vec Ideal S2048x1 .f32) (lw : Vec Ideal S1x18 .f32) (A : Vec Ideal S18x512 .f32) (B : Vec Ideal S18x512 .f32) (C : Vec Ideal S18x512 .f32) (b1 : Vec Ideal S1x512 .f32) (W2 : Vec Ideal S512x256 .f32) (b2 : Vec Ideal S1x256 .f32) (W3 : Vec Ideal S256x128 .f32) (b3 : Vec Ideal S1x128 .f32) (w4 : Vec Ideal S1x128 .f32) (c : Vec Ideal S1x1 .f32)
    (i : S1x1.Idx) :
    k0_pay6 (F := Ideal) (k0_pay1 (View.ld x (Rect.unit ![0, 0] ![2048, 20] inb_S2048x20_S2048x20_0_0)))
      (k0_pay4 (View.ld x (Rect.unit ![0, 0] ![2048, 20] inb_S2048x20_S2048x20_0_0)) (View.ld e0 (Rect.unit ![0, 0] ![2048, 18] inb_S2048x18_S2048x18_0_0)) (View.ld e1 (Rect.unit ![0, 0] ![2048, 18] inb_S2048x18_S2048x18_0_0))
        (View.ld f0 (Rect.unit ![0, 0] ![2048, 1] inb_S2048x1_S2048x1_0_0)) (View.ld f1 (Rect.unit ![0, 0] ![2048, 1] inb_S2048x1_S2048x1_0_0)) (View.ld lw (Rect.unit ![0, 0] ![1, 18] inb_S1x18_S1x18_0_0)))
      (k0_pay5 (View.ld e0 (Rect.unit ![0, 0] ![2048, 18] inb_S2048x18_S2048x18_0_0)) (View.ld e1 (Rect.unit ![0, 0] ![2048, 18] inb_S2048x18_S2048x18_0_0)) (View.ld A (Rect.unit ![0, 0] ![18, 512] inb_S18x512_S18x512_0_0)) (View.ld B (Rect.unit ![0, 0] ![18, 512] inb_S18x512_S18x512_0_0)))
      (View.ld C (Rect.unit ![0, 0] ![18, 512] inb_S18x512_S18x512_0_0)) (View.ld b1 (Rect.unit ![0, 0] ![1, 512] inb_S1x512_S1x512_0_0)) (View.ld W2 (Rect.unit ![0, 0] ![512, 256] inb_S512x256_S512x256_0_0))
      (View.ld b2 (Rect.unit ![0, 0] ![1, 256] inb_S1x256_S1x256_0_0)) (View.ld W3 (Rect.unit ![0, 0] ![256, 128] inb_S256x128_S256x128_0_0)) (View.ld b3 (Rect.unit ![0, 0] ![1, 128] inb_S1x128_S1x128_0_0))
      (View.ld w4 (Rect.unit ![0, 0] ![1, 128] inb_S1x128_S1x128_0_0)) ((View.ld c (Rect.unit ![0, 0] ![1, 1] inb_S1x1_S1x1_0_0)) i)
      = block x e0 e1 f0 f1 lw A B C b1 W2 b2 W3 b3 w4 (c (ix2 0 0)) := by
  rw [View.ld_unit_zero (S := S2048x20) origin2 inb_S2048x20_S2048x20_0_0 x]
  rw [View.ld_unit_zero (S := S2048x18) origin2 inb_S2048x18_S2048x18_0_0 e0]
  rw [View.ld_unit_zero (S := S2048x18) origin2 inb_S2048x18_S2048x18_0_0 e1]
  rw [View.ld_unit_zero (S := S2048x1) origin2 inb_S2048x1_S2048x1_0_0 f0]
  rw [View.ld_unit_zero (S := S2048x1) origin2 inb_S2048x1_S2048x1_0_0 f1]
  rw [View.ld_unit_zero (S := S1x18) origin2 inb_S1x18_S1x18_0_0 lw]
  rw [View.ld_unit_zero (S := S18x512) origin2 inb_S18x512_S18x512_0_0 A]
  rw [View.ld_unit_zero (S := S18x512) origin2 inb_S18x512_S18x512_0_0 B]
  rw [View.ld_unit_zero (S := S18x512) origin2 inb_S18x512_S18x512_0_0 C]
  rw [View.ld_unit_zero (S := S1x512) origin2 inb_S1x512_S1x512_0_0 b1]
  rw [View.ld_unit_zero (S := S512x256) origin2 inb_S512x256_S512x256_0_0 W2]
  rw [View.ld_unit_zero (S := S1x256) origin2 inb_S1x256_S1x256_0_0 b2]
  rw [View.ld_unit_zero (S := S256x128) origin2 inb_S256x128_S256x128_0_0 W3]
  rw [View.ld_unit_zero (S := S1x128) origin2 inb_S1x128_S1x128_0_0 b3]
  rw [View.ld_unit_zero (S := S1x128) origin2 inb_S1x128_S1x128_0_0 w4]
  rw [View.ld_unit_zero (S := S1x1) origin2 inb_S1x1_S1x1_0_0 c]
  rw [show i = ix2 0 0 from funext fun a => by fin_cases a <;> exact Subsingleton.elim (α := Fin 1) _ _]
  rfl

/-- The first call's output block at point `t`. -/
theorem out0 (c : Dev nD) (t : Fin cfg0.N) :
    outsAt0 V c t = block (iblk0 V c 0 t) (iblk0 V c 1 t) (iblk0 V c 2 t) (iblk0 V c 3 t) (iblk0 V c 4 t) (iblk0 V c 14 t)
      (iblk0 V c 5 t) (iblk0 V c 6 t) (iblk0 V c 7 t) (iblk0 V c 8 t) (iblk0 V c 9 t) (iblk0 V c 10 t) (iblk0 V c 11 t)
      (iblk0 V c 12 t) (iblk0 V c 13 t) (iblk0 V c 15 t (ix2 0 0)) := by
  unfold outsAt0 out0_A_16
  rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread]
  rw [View.canon_unit_zero origin1]
  exact block_loads ..

/-- The second call's output block at point `t`. -/
theorem out1 (c : Dev nD) (t : Fin cfg1.N) :
    outsAt1 V c t = block (iblk1 V c 0 t) (iblk1 V c 1 t) (iblk1 V c 2 t) (iblk1 V c 3 t) (iblk1 V c 4 t) (iblk1 V c 14 t)
      (iblk1 V c 5 t) (iblk1 V c 6 t) (iblk1 V c 7 t) (iblk1 V c 8 t) (iblk1 V c 9 t) (iblk1 V c 10 t) (iblk1 V c 11 t)
      (iblk1 V c 12 t) (iblk1 V c 13 t) (iblk1 V c 15 t (ix2 0 0)) := by
  unfold outsAt1 out1_A_16
  rw [View.read_writes_eq_canon _ _ _ (cover1_A_16 c _ _ _ _ _ _ _ _ _ _ _ _ _ _ _ _ _ _ _ _ _ _ _ _ _ _ _ _ _ _ _ _ _ _ _ _ _ _ _ _ _ _ _ _ _ _ _ _ _ _ _)]
  unfold kernelRun1_A
  dsimp only
  sl_unfold_words
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread,
    (hs1_9 t).read_unread, (hs1_10 t).read_unread, (hs1_11 t).read_unread, (hs1_12 t).read_unread, (hs1_13 t).read_unread,
    (hs1_14 t).read_unread, (hs1_15 t).read_unread]
  rw [View.canon_unit_zero origin1]
  exact block_loads ..

end Cert.KernelIdeal.Fm

end
-- ==== Proof.Region.lean ====
/-
  What the output arrays of the two kernel calls hold when a call ends, from what its input arrays held when it began:
  element `r` is the logistic function of the row's number, the first call reading row `r` of the input and the second
  row `8192 + r`.
-/
module

public import proofs.«01_k».proof.Proof.Out
public import Idealize.ShloMosaic.Lib.Pipeline.ValueKit

@[expose] public section

noncomputable section

open scoped BigOperators

namespace Cert.KernelIdeal.Fm

open Cert.KernelIdeal Cert.KernelIdeal.Gen Idealize.ShloMosaic Idealize.ShloMosaic.TcCoe Idealize.SL.Sem _root_.Fm

/-- Half of the result, from the arrays a call reads: row `r` of the gathered rows with row `o + r` of the input. -/
def half (o : Nat) (ho : o ≤ 8192) (x : FVec Ideal S16384x20 .f32) (e0 e1 : FVec Ideal S8192x18 .f32) (f0 f1 : FVec Ideal S8192x1 .f32)
    (lw : FVec Ideal S1x18 .f32) (A B C : FVec Ideal S18x512 .f32) (b1 : FVec Ideal S1x512 .f32) (W2 : FVec Ideal S512x256 .f32)
    (b2 : FVec Ideal S1x256 .f32) (W3 : FVec Ideal S256x128 .f32) (b3 w4 : FVec Ideal S1x128 .f32) (c : FVec Ideal S1x1 .f32) (r : Fin 8192) : EReal :=
  Ideal.logistic (logit (fun k => e0 (ix2 r k)) (fun k => e1 (ix2 r k)) (fun k => x (ix2 ⟨o + r.val, by omega⟩ ⟨2 + k.val, by omega⟩))
    (fun k => lw (ix2 0 k)) (f0 (ix2 r 0)) (f1 (ix2 r 0)) (c (ix2 0 0)) (fun k j => A (ix2 k j)) (fun k j => B (ix2 k j)) (fun k j => C (ix2 k j))
    (fun j => b1 (ix2 0 j)) (fun k j => W2 (ix2 k j)) (fun j => b2 (ix2 0 j)) (fun k j => W3 (ix2 k j)) (fun j => b3 (ix2 0 j))
    (fun j => w4 (ix2 0 j)))

/-- An element of a block is the element of half of the result at the block's place, where the block's inputs are the
    arrays' at that place. -/
theorem block_eq_half (o : Nat) (ho : o ≤ 8192) (X : FVec Ideal S16384x20 .f32) (E0 E1 : FVec Ideal S8192x18 .f32) (F0 F1 : FVec Ideal S8192x1 .f32)
    (x : FVec Ideal S2048x20 .f32) (e0 e1 : FVec Ideal S2048x18 .f32) (f0 f1 : FVec Ideal S2048x1 .f32) (lw : FVec Ideal S1x18 .f32)
    (A B C : FVec Ideal S18x512 .f32) (b1 : FVec Ideal S1x512 .f32) (W2 : FVec Ideal S512x256 .f32) (b2 : FVec Ideal S1x256 .f32)
    (W3 : FVec Ideal S256x128 .f32) (b3 w4 : FVec Ideal S1x128 .f32) (c : FVec Ideal S1x1 .f32) (r : Fin 2048) (R : Fin 8192)
    (hx : ∀ k, x (ix2 r k) = X (ix2 ⟨o + R.val, by omega⟩ k)) (h0 : ∀ k, e0 (ix2 r k) = E0 (ix2 R k)) (h1 : ∀ k, e1 (ix2 r k) = E1 (ix2 R k))
    (g0 : f0 (ix2 r 0) = F0 (ix2 R 0)) (g1 : f1 (ix2 r 0) = F1 (ix2 R 0)) :
    block x e0 e1 f0 f1 lw A B C b1 W2 b2 W3 b3 w4 (c (ix2 0 0)) (ix1 r) = half o ho X E0 E1 F0 F1 lw A B C b1 W2 b2 W3 b3 w4 c R := by
  rw [block_apply, half, g0, g1]
  simp only [hx, h0, h1]

variable (V : (c : Dev nD) → (b : Ref sig .tc) → Buf (Elt Ideal) ((c : Thread nD τ).loc b))

/-- The blocks of the first call: point `t` reads block `t` of the input and block `t` of the gathered arrays, writes block `t` of the
    result and reads every other array whole. -/
theorem index0 : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_16.index t = ![t.val])
    ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

set_option maxHeartbeats 2000000 in
/-- The arrays the first call reads whole. -/
theorem whole0 (c : Dev nD) (t : Fin cfg0.N) :
    iblk0 V c 5 t = V c main_v3 ∧ iblk0 V c 6 t = V c main_v4 ∧ iblk0 V c 7 t = V c main_v5 ∧ iblk0 V c 8 t = V c main_v6 ∧ iblk0 V c 9 t = V c main_arg8 ∧ iblk0 V c 10 t = V c main_v7 ∧ iblk0 V c 11 t = V c main_arg10 ∧ iblk0 V c 12 t = V c main_v8 ∧ iblk0 V c 13 t = V c main_v9 ∧ iblk0 V c 14 t = V c main_arg3 ∧ iblk0 V c 15 t = V c main_v2 := by
  obtain ⟨-, h5, h6, h7, h8, h9, h10, h11, h12, h13, h14, h15⟩ := index0 t
  refine ⟨?_, ?_, ?_, ?_, ?_, ?_, ?_, ?_, ?_, ?_, ?_⟩ <;> funext y <;> blk_simp [iblk0]
  · refine congrArg (V c main_v3) ?_; blk_ext [h5]
  · refine congrArg (V c main_v4) ?_; blk_ext [h6]
  · refine congrArg (V c main_v5) ?_; blk_ext [h7]
  · refine congrArg (V c main_v6) ?_; blk_ext [h8]
  · refine congrArg (V c main_arg8) ?_; blk_ext [h9]
  · refine congrArg (V c main_v7) ?_; blk_ext [h10]
  · refine congrArg (V c main_arg10) ?_; blk_ext [h11]
  · refine congrArg (V c main_v8) ?_; blk_ext [h12]
  · refine congrArg (V c main_v9) ?_; blk_ext [h13]
  · refine congrArg (V c main_arg3) ?_; blk_ext [h14]
  · refine congrArg (V c main_v2) ?_; blk_ext [h15]

set_option maxHeartbeats 2000000 in
/-- The first call's result array when the call ends. -/
theorem final0 (c : Dev nD) :
    (dat0 V c).arrAt 16 cfg0.N = fun i : S8192.Idx => half 0 (by decide) (V c main_arg0) (V c main_v16) (V c main_v17) (V c main_v18) (V c main_v19)
      (V c main_arg3) (V c main_v3) (V c main_v4) (V c main_v5) (V c main_v6) (V c main_arg8) (V c main_v7) (V c main_arg10)
      (V c main_v8) (V c main_v9) (V c main_v2) (i 0) := by
  refine (dat0 V c).arrAt_eq_of_covers 16 _ (by decide +kernel) fun t hf y => ?_
  blk_simp
  rw [after0_16, out0]
  obtain ⟨e5, e6, e7, e8, e9, e10, e11, e12, e13, e14, e15⟩ := whole0 V c t
  obtain ⟨⟨i0, i1, i2, i3, i4, i16⟩, -⟩ := index0 t
  rw [e5, e6, e7, e8, e9, e10, e11, e12, e13, e14, e15]
  obtain ⟨r, rfl⟩ : ∃ r : Fin 2048, y = ix1 r := ⟨y 0, funext fun a => by fin_cases a; rfl⟩
  refine block_eq_half 0 (by decide) _ _ _ _ _ _ _ _ _ _ _ _ _ _ _ _ _ _ _ _ _ r _ (fun k => ?_) (fun k => ?_) (fun k => ?_) ?_ ?_ <;> blk_simp [iblk0]
  · refine congrArg (V c main_arg0) ?_; blk_ext [i0, i16]
  · refine congrArg (V c main_v16) ?_; blk_ext [i1, i16]
  · refine congrArg (V c main_v17) ?_; blk_ext [i2, i16]
  · refine congrArg (V c main_v18) ?_; blk_ext [i3, i16]
  · refine congrArg (V c main_v19) ?_; blk_ext [i4, i16]

/-- The blocks of the second call: point `t` reads block `4 + t` of the input and block `t` of the gathered arrays, writes block `t` of the
    result and reads every other array whole. -/
theorem index1 : ∀ t : Fin cfg1.N, (win1_0.index t = ![4 + t.val, 0] ∧ win1_1.index t = ![t.val, 0] ∧ win1_2.index t = ![t.val, 0]
    ∧ win1_3.index t = ![t.val, 0] ∧ win1_4.index t = ![t.val, 0] ∧ win1_16.index t = ![t.val])
    ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_14.index t = ![0, 0] ∧ win1_15.index t = ![0, 0] :=
  (by decide +kernel : ∀ t : Fin grid1.N, _)

set_option maxHeartbeats 2000000 in
/-- The arrays the second call reads whole. -/
theorem whole1 (c : Dev nD) (t : Fin cfg1.N) :
    iblk1 V c 5 t = V c main_v3 ∧ iblk1 V c 6 t = V c main_v4 ∧ iblk1 V c 7 t = V c main_v5 ∧ iblk1 V c 8 t = V c main_v6 ∧ iblk1 V c 9 t = V c main_arg8 ∧ iblk1 V c 10 t = V c main_v7 ∧ iblk1 V c 11 t = V c main_arg10 ∧ iblk1 V c 12 t = V c main_v8 ∧ iblk1 V c 13 t = V c main_v9 ∧ iblk1 V c 14 t = V c main_arg3 ∧ iblk1 V c 15 t = V c main_v2 := by
  obtain ⟨-, h5, h6, h7, h8, h9, h10, h11, h12, h13, h14, h15⟩ := index1 t
  refine ⟨?_, ?_, ?_, ?_, ?_, ?_, ?_, ?_, ?_, ?_, ?_⟩ <;> funext y <;> blk_simp [iblk1]
  · refine congrArg (V c main_v3) ?_; blk_ext [h5]
  · refine congrArg (V c main_v4) ?_; blk_ext [h6]
  · refine congrArg (V c main_v5) ?_; blk_ext [h7]
  · refine congrArg (V c main_v6) ?_; blk_ext [h8]
  · refine congrArg (V c main_arg8) ?_; blk_ext [h9]
  · refine congrArg (V c main_v7) ?_; blk_ext [h10]
  · refine congrArg (V c main_arg10) ?_; blk_ext [h11]
  · refine congrArg (V c main_v8) ?_; blk_ext [h12]
  · refine congrArg (V c main_v9) ?_; blk_ext [h13]
  · refine congrArg (V c main_arg3) ?_; blk_ext [h14]
  · refine congrArg (V c main_v2) ?_; blk_ext [h15]

set_option maxHeartbeats 2000000 in
/-- The second call's result array when the call ends. -/
theorem final1 (c : Dev nD) :
    (dat1 V c).arrAt 16 cfg1.N = fun i : S8192.Idx => half 8192 (by decide) (V c main_arg0) (V c main_v27) (V c main_v28) (V c main_v29) (V c main_v30)
      (V c main_arg3) (V c main_v3) (V c main_v4) (V c main_v5) (V c main_v6) (V c main_arg8) (V c main_v7) (V c main_arg10)
      (V c main_v8) (V c main_v9) (V c main_v2) (i 0) := by
  refine (dat1 V c).arrAt_eq_of_covers 16 _ (by decide +kernel) fun t hf y => ?_
  blk_simp
  rw [after1_16, out1]
  obtain ⟨e5, e6, e7, e8, e9, e10, e11, e12, e13, e14, e15⟩ := whole1 V c t
  obtain ⟨⟨i0, i1, i2, i3, i4, i16⟩, -⟩ := index1 t
  rw [e5, e6, e7, e8, e9, e10, e11, e12, e13, e14, e15]
  obtain ⟨r, rfl⟩ : ∃ r : Fin 2048, y = ix1 r := ⟨y 0, funext fun a => by fin_cases a; rfl⟩
  refine block_eq_half 8192 (by decide) _ _ _ _ _ _ _ _ _ _ _ _ _ _ _ _ _ _ _ _ _ r _ (fun k => ?_) (fun k => ?_) (fun k => ?_) ?_ ?_ <;> blk_simp [iblk1]
  · refine congrArg (V c main_arg0) ?_; blk_ext [i0, i16]
  · refine congrArg (V c main_v27) ?_; blk_ext [i1, i16]
  · refine congrArg (V c main_v28) ?_; blk_ext [i2, i16]
  · refine congrArg (V c main_v29) ?_; blk_ext [i3, i16]
  · refine congrArg (V c main_v30) ?_; blk_ext [i4, i16]

end Cert.KernelIdeal.Fm

end
-- ==== Proof.Host.lean ====
/-
  What the kernel's host program leaves in the arrays the two calls read besides the taken rows: the three thirds of the
  first layer's weights, the biases as rows, the output weights as a row, the sum of the scalar biases, and the words.
-/
module

public import proofs.«01_k».proof.Proof.Takes
public import proofs.«01_k».proof.Proof.Region

@[expose] public section

noncomputable section

open scoped BigOperators

namespace Cert.KernelIdeal.Fm

open Cert.KernelIdeal Cert.KernelIdeal.Gen Idealize.ShloMosaic Idealize.ShloMosaic.TcCoe Idealize.SL.Sem _root_.Fm

/-- The words of column 0 and of column 1 of the input's lower and upper halves. -/
def lower0 (x : FVec Ideal S16384x20 .f32) : (⟨S8192, .i32⟩ : BufTy).Contents (Elt Ideal) :=
  fptosi 32 (shapeCast S8192 (extractStridedSlice S8192x1 ![0, 0] x slices_S16384x20_S8192x1_0_0) shapeCasts_S8192x1_S8192)
def lower1 (x : FVec Ideal S16384x20 .f32) : (⟨S8192, .i32⟩ : BufTy).Contents (Elt Ideal) :=
  fptosi 32 (shapeCast S8192 (extractStridedSlice S8192x1 ![0, 1] x slices_S16384x20_S8192x1_0_1) shapeCasts_S8192x1_S8192)
def upper0 (x : FVec Ideal S16384x20 .f32) : (⟨S8192, .i32⟩ : BufTy).Contents (Elt Ideal) :=
  fptosi 32 (shapeCast S8192 (extractStridedSlice S8192x1 ![8192, 0] x slices_S16384x20_S8192x1_8192_0) shapeCasts_S8192x1_S8192)
def upper1 (x : FVec Ideal S16384x20 .f32) : (⟨S8192, .i32⟩ : BufTy).Contents (Elt Ideal) :=
  fptosi 32 (shapeCast S8192 (extractStridedSlice S8192x1 ![8192, 1] x slices_S16384x20_S8192x1_8192_1) shapeCasts_S8192x1_S8192)

variable (x : FVec Ideal S16384x20 .f32) (bias lb b4 : FVec Ideal S1 .f32) (fc : FVec Ideal S1000000x1 .f32) (lw : FVec Ideal S1x18 .f32)
  (emb : FVec Ideal S1000000x18 .f32) (W1 : FVec Ideal S54x512 .f32) (b1 : FVec Ideal S512 .f32) (W2 : FVec Ideal S512x256 .f32)
  (b2 : FVec Ideal S256 .f32) (W3 : FVec Ideal S256x128 .f32) (b3 : FVec Ideal S128 .f32) (W4 : FVec Ideal S128x1 .f32)

theorem lower0_apply (r : Fin 8192) : lower0 x (ix1 r) = word x ⟨0 + r.val, by omega⟩ 0 := by pointwise [lower0, word]
theorem lower1_apply (r : Fin 8192) : lower1 x (ix1 r) = word x ⟨0 + r.val, by omega⟩ 1 := by pointwise [lower1, word]
theorem upper0_apply (r : Fin 8192) : upper0 x (ix1 r) = word x ⟨8192 + r.val, by omega⟩ 0 := by pointwise [upper0, word]
theorem upper1_apply (r : Fin 8192) : upper1 x (ix1 r) = word x ⟨8192 + r.val, by omega⟩ 1 := by pointwise [upper1, word]

/-- Half of the result, from what the host program hands a call: the model's rows from row `o` on. -/
theorem half_eq_row (o : Nat) (ho : o ≤ 8192) (w0 w1 : (⟨S8192, .i32⟩ : BufTy).Contents (Elt Ideal)) (r : Fin 8192)
    (h0 : w0 (ix1 r) = word x ⟨o + r.val, by omega⟩ 0) (h1 : w1 (ix1 r) = word x ⟨o + r.val, by omega⟩ 1) :
    half o ho x (take18 emb w0) (take18 emb w1) (take1 fc w0) (take1 fc w1) lw
      (extractStridedSlice S18x512 ![0, 0] W1 slices_S54x512_S18x512_0_0) (extractStridedSlice S18x512 ![18, 0] W1 slices_S54x512_S18x512_18_0)
      (extractStridedSlice S18x512 ![36, 0] W1 slices_S54x512_S18x512_36_0) (broadcastInDim S1x512 ![1] bcast_S512_S1x512_1 b1) W2
      (broadcastInDim S1x256 ![1] bcast_S256_S1x256_1 b2) W3 (broadcastInDim S1x128 ![1] bcast_S128_S1x128_1 b3)
      (transpose S1x128 [1, 0] W4 transposes_S128x1_S1x128_1_0) (shapeCast S1x1 (addf (addf bias lb) b4) shapeCasts_S1_S1x1) r
    = row x bias fc lw lb emb W1 b1 W2 b2 W3 b3 W4 b4 ⟨o + r.val, by omega⟩ := by
  unfold half row
  simp only [take18_apply, take1_apply, h0, h1]
  have e : third W1 0 (by decide) = fun k j => W1 (ix2 ⟨k.val, by omega⟩ j) :=
    funext fun k => funext fun j => congrArg (fun a => W1 (ix2 a j)) (Fin.ext (Nat.zero_add _))
  rw [e]
  pointwise

variable (W : Valuation τ sig (Elt Ideal))

/-- The sum of the three scalar biases. -/
theorem after_main_v2 : StableHlo.after hostOps0 W (Proc.devRef .tc main_v2) =
    shapeCast S1x1 (addf (F := Ideal) (s := S1) (φ := .f32) (addf (F := Ideal) (s := S1) (φ := .f32) (W (Proc.devRef .tc main_arg1)) (W (Proc.devRef .tc main_arg4))) (W (Proc.devRef .tc main_arg13))) shapeCasts_S1_S1x1 := by
  after_results_simp <;> rfl

/-- The first third of the first layer's weights. -/
theorem after_main_v3 : StableHlo.after hostOps0 W (Proc.devRef .tc main_v3) =
    extractStridedSlice S18x512 ![0, 0] (W (Proc.devRef .tc main_arg6)) slices_S54x512_S18x512_0_0 := by
  after_results_simp <;> rfl

/-- The second third. -/
theorem after_main_v4 : StableHlo.after hostOps0 W (Proc.devRef .tc main_v4) =
    extractStridedSlice S18x512 ![18, 0] (W (Proc.devRef .tc main_arg6)) slices_S54x512_S18x512_18_0 := by
  after_results_simp <;> rfl

/-- The last third. -/
theorem after_main_v5 : StableHlo.after hostOps0 W (Proc.devRef .tc main_v5) =
    extractStridedSlice S18x512 ![36, 0] (W (Proc.devRef .tc main_arg6)) slices_S54x512_S18x512_36_0 := by
  after_results_simp <;> rfl

/-- The first layer's bias as a row. -/
theorem after_main_v6 : StableHlo.after hostOps0 W (Proc.devRef .tc main_v6) =
    broadcastInDim S1x512 ![1] bcast_S512_S1x512_1 (W (Proc.devRef .tc main_arg7)) := by
  after_results_simp <;> rfl

/-- The second layer's bias as a row. -/
theorem after_main_v7 : StableHlo.after hostOps0 W (Proc.devRef .tc main_v7) =
    broadcastInDim S1x256 ![1] bcast_S256_S1x256_1 (W (Proc.devRef .tc main_arg9)) := by
  after_results_simp <;> rfl

/-- The third layer's bias as a row. -/
theorem after_main_v8 : StableHlo.after hostOps0 W (Proc.devRef .tc main_v8) =
    broadcastInDim S1x128 ![1] bcast_S128_S1x128_1 (W (Proc.devRef .tc main_arg11)) := by
  after_results_simp <;> rfl

/-- The output weights as a row. -/
theorem after_main_v9 : StableHlo.after hostOps0 W (Proc.devRef .tc main_v9) =
    transpose S1x128 [1, 0] (W (Proc.devRef .tc main_arg12)) transposes_S128x1_S1x128_1_0 := by
  after_results_simp <;> rfl

/-- The lower half's words of column 0. -/
theorem after_main_v12 : StableHlo.after hostOps0 W (Proc.devRef .tc main_v12) =
    lower0 (W (Proc.devRef .tc main_arg0)) := by
  after_results_simp <;> rfl

/-- The lower half's words of column 1. -/
theorem after_main_v15 : StableHlo.after hostOps0 W (Proc.devRef .tc main_v15) =
    lower1 (W (Proc.devRef .tc main_arg0)) := by
  after_results_simp <;> rfl

/-- The upper half's words of column 0. -/
theorem after_main_v23 : StableHlo.after hostOps1 W (Proc.devRef .tc main_v23) =
    upper0 (W (Proc.devRef .tc main_arg0)) := by
  after_results_simp <;> rfl

/-- The upper half's words of column 1. -/
theorem after_main_v26 : StableHlo.after hostOps1 W (Proc.devRef .tc main_v26) =
    upper1 (W (Proc.devRef .tc main_arg0)) := by
  after_results_simp <;> rfl

/-- The result: the lower half, then the upper half. -/
theorem after_main_v32 : StableHlo.after hostOps2 W (Proc.devRef .tc main_v32) =
    concatenate S16384 0 [⟨S8192, W (Proc.devRef .tc main_v20)⟩, ⟨S8192, W (Proc.devRef .tc main_v31)⟩] concatenates_S8192_S8192_S16384_d0 := by
  after_results_simp <;> rfl

end Cert.KernelIdeal.Fm

end
-- ==== Proof.KernelValue.lean ====
/-
  The kernel's result array: after the run, element `r` is the model's row `r` of the arguments.
-/
module

public import proofs.«01_k».proof.Proof.Host

@[expose] public section

noncomputable section

open scoped BigOperators

namespace Cert.KernelIdeal.Fm

open Cert.KernelIdeal Cert.KernelIdeal.Gen Idealize.ShloMosaic Idealize.ShloMosaic.TcCoe Idealize.SL.Sem _root_.Fm

variable (m : (ℓ : Loc nD τ sig) → Buf (Elt Ideal) ℓ) (ρ : Dev nD → PrngReg) (c : Dev nD)

/-- The argument array `a` of core `c` at launch. -/
abbrev arg (a : Ref sig .tc) : Buf (Elt Ideal) ((c : Thread nD τ).loc a) := m ((c : Thread nD τ).loc a)

/-- An array the first call's takes do not write is at the first call what it was before them. -/
theorem W5_W1 (r : Ref sig .tc) (h1 : r ∉ hostOps0_1_W) (h2 : r ∉ hostOps0_2_W) (h3 : r ∉ hostOps0_3_W) (h4 : r ∉ hostOps0_4_W) :
    W5 m ρ c (Proc.devRef .tc r) = W1 m ρ c (Proc.devRef .tc r) :=
  (W5_of m ρ c r h4).trans <| (W4_of m ρ c r h3).trans <| (W3_of m ρ c r h2).trans (W2_of m ρ c r h1)

/-- An array nothing writes between the two calls' starts is the same at both. -/
theorem W11_W5 (r : Ref sig .tc) (h : ∀ w : Fin cfg0.W, Pipeline.arrRef spec0 w = r → (cfg0.win w).isOut = false)
    (h0 : r ∉ hostOps1_W) (h1 : r ∉ hostOps1_1_W) (h2 : r ∉ hostOps1_2_W) (h3 : r ∉ hostOps1_3_W) (h4 : r ∉ hostOps1_4_W) :
    W11 m ρ c (Proc.devRef .tc r) = W5 m ρ c (Proc.devRef .tc r) :=
  (W11_of m ρ c r h4).trans <| (W10_of m ρ c r h3).trans <| (W9_of m ρ c r h2).trans <| (W8_of m ρ c r h1).trans <|
    (W7_of m ρ c r h0).trans (W6_of m ρ c r h)

/-- What the host program hands both calls whole. -/
theorem entry_whole :
    V5 m ρ c main_v2 = shapeCast S1x1 (addf (F := Ideal) (s := S1) (φ := .f32) (addf (F := Ideal) (s := S1) (φ := .f32) (arg m c main_arg1) (arg m c main_arg4)) (arg m c main_arg13)) shapeCasts_S1_S1x1
    ∧ V5 m ρ c main_v3 = extractStridedSlice S18x512 ![0, 0] (arg m c main_arg6) slices_S54x512_S18x512_0_0
    ∧ V5 m ρ c main_v4 = extractStridedSlice S18x512 ![18, 0] (arg m c main_arg6) slices_S54x512_S18x512_18_0
    ∧ V5 m ρ c main_v5 = extractStridedSlice S18x512 ![36, 0] (arg m c main_arg6) slices_S54x512_S18x512_36_0
    ∧ V5 m ρ c main_v6 = broadcastInDim S1x512 ![1] bcast_S512_S1x512_1 (arg m c main_arg7)
    ∧ V5 m ρ c main_v7 = broadcastInDim S1x256 ![1] bcast_S256_S1x256_1 (arg m c main_arg9)
    ∧ V5 m ρ c main_v8 = broadcastInDim S1x128 ![1] bcast_S128_S1x128_1 (arg m c main_arg11)
    ∧ V5 m ρ c main_v9 = transpose S1x128 [1, 0] (arg m c main_arg12) transposes_S128x1_S1x128_1_0 := by
  refine ⟨?_, ?_, ?_, ?_, ?_, ?_, ?_, ?_⟩
  · exact (W5_W1 m ρ c main_v2 (by decide) (by decide) (by decide) (by decide)).trans (after_main_v2 _)
  · exact (W5_W1 m ρ c main_v3 (by decide) (by decide) (by decide) (by decide)).trans (after_main_v3 _)
  · exact (W5_W1 m ρ c main_v4 (by decide) (by decide) (by decide) (by decide)).trans (after_main_v4 _)
  · exact (W5_W1 m ρ c main_v5 (by decide) (by decide) (by decide) (by decide)).trans (after_main_v5 _)
  · exact (W5_W1 m ρ c main_v6 (by decide) (by decide) (by decide) (by decide)).trans (after_main_v6 _)
  · exact (W5_W1 m ρ c main_v7 (by decide) (by decide) (by decide) (by decide)).trans (after_main_v7 _)
  · exact (W5_W1 m ρ c main_v8 (by decide) (by decide) (by decide) (by decide)).trans (after_main_v8 _)
  · exact (W5_W1 m ρ c main_v9 (by decide) (by decide) (by decide) (by decide)).trans (after_main_v9 _)

/-- The second call finds those arrays as the first did. -/
theorem entry_same : ∀ r ∈ [main_v2, main_v3, main_v4, main_v5, main_v6, main_v7, main_v8, main_v9], V11 m ρ c r = V5 m ρ c r := by
  intro r hr
  have h : ∀ r ∈ [main_v2, main_v3, main_v4, main_v5, main_v6, main_v7, main_v8, main_v9], (∀ w : Fin cfg0.W, Pipeline.arrRef spec0 w = r → (cfg0.win w).isOut = false)
      ∧ r ∉ hostOps1_W ∧ r ∉ hostOps1_1_W ∧ r ∉ hostOps1_2_W ∧ r ∉ hostOps1_3_W ∧ r ∉ hostOps1_4_W := by
    decide +kernel
  obtain ⟨h, h0, h1, h2, h3, h4⟩ := h r hr
  exact W11_W5 m ρ c r h h0 h1 h2 h3 h4

/-- The rows taken for the first call. -/
theorem entry_takes0 :
    V5 m ρ c main_v16 = take18 (arg m c main_arg5) (lower0 (arg m c main_arg0))
    ∧ V5 m ρ c main_v17 = take18 (arg m c main_arg5) (lower1 (arg m c main_arg0))
    ∧ V5 m ρ c main_v18 = take1 (arg m c main_arg2) (lower0 (arg m c main_arg0))
    ∧ V5 m ρ c main_v19 = take1 (arg m c main_arg2) (lower1 (arg m c main_arg0)) := by
  have x0 : W0 m ρ c (Proc.devRef .tc main_arg0) = arg m c main_arg0 := W0_args m ρ c main_arg0 (by decide)
  have w0 : W1 m ρ c (Proc.devRef .tc main_v12) = lower0 (arg m c main_arg0) := (after_main_v12 _).trans (congrArg lower0 x0)
  have w1 : W1 m ρ c (Proc.devRef .tc main_v15) = lower1 (arg m c main_arg0) := (after_main_v15 _).trans (congrArg lower1 x0)
  refine ⟨?_, ?_, ?_, ?_⟩
  · refine (W5_of m ρ c main_v16 (by decide)).trans <| (W4_of m ρ c main_v16 (by decide)).trans <| (W3_of m ρ c main_v16 (by decide)).trans <| (after_main_v16 (W1 m ρ c)).trans ?_
    exact congrArg₂ take18 (W1_args m ρ c main_arg5 (by decide)) ( w0)
  · refine (W5_of m ρ c main_v17 (by decide)).trans <| (W4_of m ρ c main_v17 (by decide)).trans <| (after_main_v17 (W2 m ρ c)).trans ?_
    exact congrArg₂ take18 (W2_args m ρ c main_arg5 (by decide)) ((W2_of m ρ c main_v15 (by decide)).trans <| w1)
  · refine (W5_of m ρ c main_v18 (by decide)).trans <| (after_main_v18 (W3 m ρ c)).trans ?_
    exact congrArg₂ take1 (W3_args m ρ c main_arg2 (by decide)) ((W3_of m ρ c main_v12 (by decide)).trans <| (W2_of m ρ c main_v12 (by decide)).trans <| w0)
  · refine  (after_main_v19 (W4 m ρ c)).trans ?_
    exact congrArg₂ take1 (W4_args m ρ c main_arg2 (by decide)) ((W4_of m ρ c main_v15 (by decide)).trans <| (W3_of m ρ c main_v15 (by decide)).trans <| (W2_of m ρ c main_v15 (by decide)).trans <| w1)

/-- The rows taken for the second call. -/
theorem entry_takes1 :
    V11 m ρ c main_v27 = take18 (arg m c main_arg5) (upper0 (arg m c main_arg0))
    ∧ V11 m ρ c main_v28 = take18 (arg m c main_arg5) (upper1 (arg m c main_arg0))
    ∧ V11 m ρ c main_v29 = take1 (arg m c main_arg2) (upper0 (arg m c main_arg0))
    ∧ V11 m ρ c main_v30 = take1 (arg m c main_arg2) (upper1 (arg m c main_arg0)) := by
  have x0 : W6 m ρ c (Proc.devRef .tc main_arg0) = arg m c main_arg0 := W6_args m ρ c main_arg0 (by decide)
  have w0 : W7 m ρ c (Proc.devRef .tc main_v23) = upper0 (arg m c main_arg0) := (after_main_v23 _).trans (congrArg upper0 x0)
  have w1 : W7 m ρ c (Proc.devRef .tc main_v26) = upper1 (arg m c main_arg0) := (after_main_v26 _).trans (congrArg upper1 x0)
  refine ⟨?_, ?_, ?_, ?_⟩
  · refine (W11_of m ρ c main_v27 (by decide)).trans <| (W10_of m ρ c main_v27 (by decide)).trans <| (W9_of m ρ c main_v27 (by decide)).trans <| (after_main_v27 (W7 m ρ c)).trans ?_
    exact congrArg₂ take18 (W7_args m ρ c main_arg5 (by decide)) ( w0)
  · refine (W11_of m ρ c main_v28 (by decide)).trans <| (W10_of m ρ c main_v28 (by decide)).trans <| (after_main_v28 (W8 m ρ c)).trans ?_
    exact congrArg₂ take18 (W8_args m ρ c main_arg5 (by decide)) ((W8_of m ρ c main_v26 (by decide)).trans <| w1)
  · refine (W11_of m ρ c main_v29 (by decide)).trans <| (after_main_v29 (W9 m ρ c)).trans ?_
    exact congrArg₂ take1 (W9_args m ρ c main_arg2 (by decide)) ((W9_of m ρ c main_v23 (by decide)).trans <| (W8_of m ρ c main_v23 (by decide)).trans <| w0)
  · refine  (after_main_v30 (W10 m ρ c)).trans ?_
    exact congrArg₂ take1 (W10_args m ρ c main_arg2 (by decide)) ((W10_of m ρ c main_v26 (by decide)).trans <| (W9_of m ρ c main_v26 (by decide)).trans <| (W8_of m ρ c main_v26 (by decide)).trans <| w1)

/-- The model's rows of core `c`'s arguments. -/
def result (i : S16384.Idx) : EReal :=
  row (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (i 0)

/-- The first call's array holds rows 0 to 8191. -/
theorem lower_apply (r : Fin 8192) : W6 m ρ c (Proc.devRef .tc main_v20) (ix1 r) = result m c (ix1 ⟨0 + r.val, by omega⟩) := by
  have e := congrFun ((W6_arr m ρ c 16).trans (final0 (V5 m ρ) c)) (ix1 r)
  refine e.trans ?_
  obtain ⟨h2, h3, h4, h5, h6, h7, h8, h9⟩ := entry_whole m ρ c
  obtain ⟨t0, t1, t2, t3⟩ := entry_takes0 m ρ c
  have ha : ∀ a ∈ argRefs, V5 m ρ c a = arg m c a := fun a h => W5_args m ρ c a h
  rw [h2, h3, h4, h5, h6, h7, h8, h9, t0, t1, t2, t3, ha main_arg0 (by decide), ha main_arg3 (by decide), ha main_arg8 (by decide),
    ha main_arg10 (by decide)]
  exact half_eq_row _ _ _ _ _ _ _ _ _ _ _ _ _ _ 0 (by decide) _ _ r (lower0_apply _ r) (lower1_apply _ r)

/-- The second call's array holds rows 8192 to 16383. -/
theorem upper_apply (r : Fin 8192) : W12 m ρ c (Proc.devRef .tc main_v31) (ix1 r) = result m c (ix1 ⟨8192 + r.val, by omega⟩) := by
  have e := congrFun ((W12_arr m ρ c 16).trans (final1 (V11 m ρ) c)) (ix1 r)
  refine e.trans ?_
  obtain ⟨h2, h3, h4, h5, h6, h7, h8, h9⟩ := entry_whole m ρ c
  obtain ⟨t0, t1, t2, t3⟩ := entry_takes1 m ρ c
  have ha : ∀ a ∈ argRefs, V11 m ρ c a = arg m c a := fun a h => W11_args m ρ c a h
  have hs := entry_same m ρ c
  rw [hs main_v2 (by decide), hs main_v3 (by decide), hs main_v4 (by decide), hs main_v5 (by decide), hs main_v6 (by decide),
    hs main_v7 (by decide), hs main_v8 (by decide), hs main_v9 (by decide),
    h2, h3, h4, h5, h6, h7, h8, h9, t0, t1, t2, t3, ha main_arg0 (by decide), ha main_arg3 (by decide), ha main_arg8 (by decide),
    ha main_arg10 (by decide)]
  exact half_eq_row _ _ _ _ _ _ _ _ _ _ _ _ _ _ 8192 (by decide) _ _ r (upper0_apply _ r) (upper1_apply _ r)

/-- The first call's array is unchanged until the halves are joined. -/
theorem lower_kept : W12 m ρ c (Proc.devRef .tc main_v20) = W6 m ρ c (Proc.devRef .tc main_v20) :=
  (W12_of m ρ c main_v20 (by decide +kernel)).trans <| (W11_of m ρ c main_v20 (by decide)).trans <| (W10_of m ρ c main_v20 (by decide)).trans <|
    (W9_of m ρ c main_v20 (by decide)).trans <| (W8_of m ρ c main_v20 (by decide)).trans (W7_of m ρ c main_v20 (by decide))

/-- The result array at the end of the run holds the model's rows. -/
theorem result_eq : W13 m ρ c (Proc.devRef .tc main_v32) = result m c := by
  refine (after_main_v32 (W12 m ρ c)).trans ?_
  funext i
  obtain ⟨r, rfl⟩ : ∃ r : Fin 16384, i = ix1 r := ⟨i 0, funext fun a => by fin_cases a; rfl⟩
  have hl := fun r => (congrFun (lower_kept m ρ c) (ix1 r)).trans (lower_apply m ρ c r)
  have hu := upper_apply m ρ c
  generalize W12 m ρ c (Proc.devRef .tc main_v20) = L at hl ⊢
  generalize W12 m ρ c (Proc.devRef .tc main_v31) = U at hu ⊢
  pointwise
  split
  · rw [hl]
    exact congrArg (fun a => result m c (ix1 a)) (Fin.ext (Nat.zero_add _))
  · rw [hu]
    exact congrArg (fun a => result m c (ix1 a)) (Fin.ext (by dsimp only; omega))

end Cert.KernelIdeal.Fm

end
-- ==== Proof.KernelRun.lean ====
/-
  The run of the kernel's program: it ends with the result array at the model's rows and the arguments as launched.
-/
module

public import proofs.«01_k».proof.Proof.KernelValue

@[expose] public section

set_option maxRecDepth 16384

noncomputable section

namespace Cert.KernelIdeal.Fm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, and leaves each array of each core at its contents after the last stretch of host operations. -/
theorem run_whole : θ_run defs (onTc (τ := τ) (main (F := Ideal))) ⟨m, fun _ => 0, ρ⟩ (fun r => ∀ c : Dev nD,
      ∀ b ∈ Pipeline.ucRefs τ sig, r.2.mem ((c : Thread nD τ).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c b hb => h c b hb)

/-- Every execution ends with the result array at the model's rows of the arguments, and the arguments unchanged. -/
theorem run_result : θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_v32 (by decide))).trans (result_eq m ρ c),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c)⟩) (run_whole m ρ)

end Cert.KernelIdeal.Fm

end
-- ==== Proof.RefRows.lean ====
/-
  The reference's table rows: the embedding rows and the weights it gathers, read at an index as rows of the tables.
-/
module

public import proofs.«01_k».proof.Proof.Rows
public import proofs.«01_k».proof.Proof.Gen.ReferenceIdeal.Read

@[expose] public section

noncomputable section

open scoped BigOperators

namespace Cert.ReferenceIdeal.Fm

open Cert.ReferenceIdeal Cert.ReferenceIdeal.Gen Cert.ReferenceIdeal.Read Idealize.ShloMosaic Idealize.SL.Sem _root_.Fm

/-- The words the reference gathers the embedding rows by. -/
theorem word_emb (x : S16384x20.Idx → EReal) (r : Fin 16384) (q : Fin 2) :
    val_main_call0_v5 (F := Ideal) x (ix3 r q 0) = wrap (word x r q) := by
  pointwise [val_main_call0_v5, val_main_call0_v4, val_main_call0_v3, val_main_call0_v2, val_main_call0_c_0, val_main_call0_v1,
    val_main_call0_v0, val_main_call0_c, val_main_v1, val_main_v0, wrap, word]

/-- The bit that selects between a gathered embedding row and the fill value. -/
theorem mask_emb (x : S16384x20.Idx → EReal) (r : Fin 16384) (q : Fin 2) :
    val_main_call0_v12 (F := Ideal) x (ix2 r q) = inside (wrap (word x r q)) := by
  pointwise [val_main_call0_v12, val_main_call0_c_3, val_main_call0_v11, val_main_call0_v10, val_main_call0_v9, val_main_call0_v8,
    val_main_call0_c_1, val_main_call0_v7, val_main_call0_v6, val_main_call0_c_2, inside]
  rw [fold_andi_one, word_emb]

/-- Element `k` of row `r`'s embedding row for column `q`. -/
theorem emb_apply (x : S16384x20.Idx → EReal) (T : S1000000x18.Idx → EReal) (r : Fin 16384) (q : Fin 2) (k : Fin 18) :
    val_main_v3 (F := Ideal) x T (ix3 r q k) = takeRow T (word x r q) k := by
  have hg : val_main_call0_v13 (F := Ideal) x T (ix3 r q k) = T (ix2 (rowOf (wrap (word x r q))) k) := by
    rw [← word_emb x r q]
    exact gather_pairs_apply gather_S1000000x18_S16384x2x1_S16384x2x18_2_0_n_n_0_2_118_wf T _ r q k
  have hm : val_main_call0_v14 (F := Ideal) x (ix3 r q k) = inside (wrap (word x r q)) := by
    rw [← mask_emb x r q]
    pointwise [val_main_call0_v14]
  unfold takeRow
  rw [← hg, ← hm]
  pointwise [val_main_v3, val_main_call0_v15, val_main_call0_cst]

/-- Row `r`'s weight for column `q`. -/
theorem weight_apply (x : S16384x20.Idx → EReal) (T : S1000000x1.Idx → EReal) (r : Fin 16384) (q : Fin 2) :
    val_main_v6 (F := Ideal) x T (ix3 r q 0) = takeRow T (word x r q) 0 := by
  have hg : val_main_call1_v13 (F := Ideal) x T (ix3 r q 0) = T (ix2 (rowOf (wrap (word x r q))) 0) := by
    rw [← word_emb x r q]
    exact gather_pairs_apply gather_S1000000x1_S16384x2x1_S16384x2x1_2_0_n_n_0_2_11_wf T _ r q 0
  have hm : val_main_call1_v14 (F := Ideal) x (ix3 r q 0) = inside (wrap (word x r q)) := by
    rw [← mask_emb x r q]
    pointwise [val_main_call1_v14]
    rfl
  unfold takeRow
  rw [← hg, ← hm]
  pointwise [val_main_v6, val_main_call1_v15, val_main_call1_cst]

end Cert.ReferenceIdeal.Fm

end
-- ==== Proof.RefValue.lean ====
/-
  What the reference computes: its result at row `r` is the model's row.
-/
module

public import proofs.«01_k».proof.Proof.RefRows

@[expose] public section

noncomputable section

open scoped BigOperators

namespace Cert.ReferenceIdeal.Fm

open Cert.ReferenceIdeal Cert.ReferenceIdeal.Gen Cert.ReferenceIdeal.Read Idealize.ShloMosaic Idealize.SL.Sem _root_.Fm

/-- The two embedding rows of the stack of three. -/
theorem stack_emb (x : S16384x20.Idx → EReal) (T : S1000000x18.Idx → EReal) (r : Fin 16384) (q : Fin 2) (k : Fin 18) :
    val_main_v5 (F := Ideal) x T (ix3 r ⟨q.val, by omega⟩ k) = takeRow T (word x r q) k := by
  rw [← emb_apply]
  pointwise [val_main_v5, Value.fn_main_v5]

/-- The dense row of the stack of three. -/
theorem stack_dense (x : S16384x20.Idx → EReal) (T : S1000000x18.Idx → EReal) (r : Fin 16384) (k : Fin 18) :
    val_main_v5 (F := Ideal) x T (ix3 r 2 k) = dense x r k := by
  pointwise [val_main_v5, Value.fn_main_v5, val_main_v4, val_main_v2]

/-- The first layer's inputs 0 to 17: the first embedding row. -/
theorem input_emb0 (x : S16384x20.Idx → EReal) (T : S1000000x18.Idx → EReal) (r : Fin 16384) (k : Fin 18) :
    val_main_v28 (F := Ideal) x T (ix2 r ⟨0 + k.val, by omega⟩) = takeRow T (word x r 0) k := by
  rw [← emb_apply]
  pointwise [val_main_v28, Value.fn_main_v28, val_main_v27]
  rw [dif_pos (by omega)]
  exact congrArg₂ (fun q j => val_main_v3 (F := Ideal) x T (ix3 r q j)) (Fin.ext (by simp only [Fin.val_zero]; omega)) (Fin.ext (by dsimp only; omega))

/-- The first layer's inputs 18 to 35: the second embedding row. -/
theorem input_emb1 (x : S16384x20.Idx → EReal) (T : S1000000x18.Idx → EReal) (r : Fin 16384) (k : Fin 18) :
    val_main_v28 (F := Ideal) x T (ix2 r ⟨18 + k.val, by omega⟩) = takeRow T (word x r 1) k := by
  rw [← emb_apply]
  pointwise [val_main_v28, Value.fn_main_v28, val_main_v27]
  rw [dif_pos (by omega)]
  exact congrArg (fun q => val_main_v3 (F := Ideal) x T (ix3 r q k)) (Fin.ext (by simp only [Fin.val_one]; omega))

/-- The first layer's inputs 36 to 53: the dense features. -/
theorem input_dense (x : S16384x20.Idx → EReal) (T : S1000000x18.Idx → EReal) (r : Fin 16384) (k : Fin 18) :
    val_main_v28 (F := Ideal) x T (ix2 r ⟨36 + k.val, by omega⟩) = dense x r k := by
  pointwise [val_main_v28, Value.fn_main_v28, val_main_v27, val_main_v2]

/-- Half of the pairwise interactions of the three rows. -/
theorem pair_apply (x : S16384x20.Idx → EReal) (emb : S1000000x18.Idx → EReal) (r : Fin 16384) :
    val_main_v25 (F := Ideal) x emb (ix2 r 0) = pair (takeRow emb (word x r 0)) (takeRow emb (word x r 1)) (dense x r) := by
  have h0 : ∀ k, val_main_v5 (F := Ideal) x emb (ix3 r 0 k) = takeRow emb (word x r 0) k := fun k => stack_emb x emb r 0 k
  have h1 : ∀ k, val_main_v5 (F := Ideal) x emb (ix3 r 1 k) = takeRow emb (word x r 1) k := fun k => stack_emb x emb r 1 k
  have h2 := fun k => stack_dense x emb r k
  pointwise [val_main_v25, val_main_v24, val_main_cst_3, val_main_v23, val_main_v22, val_main_cst_2, val_main_v21, val_main_v20,
    val_main_cst_1, val_main_v19, val_main_v18, val_main_v17, val_main_cst_0, pair]
  simp only [Fin.sum_univ_three, h0, h1, h2]

/-- The linear part: the bias, the two table weights, the dense features' weights and the second bias. -/
theorem linear_apply (x : S16384x20.Idx → EReal) (bias : S1.Idx → EReal) (fc : S1000000x1.Idx → EReal) (lw : S1x18.Idx → EReal) (lb : S1.Idx → EReal)
    (r : Fin 16384) :
    val_main_v16 (F := Ideal) x bias fc lw lb (ix2 r 0)
      = bias (ix1 0) + (takeRow fc (word x r 0) 0 + takeRow fc (word x r 1) 0) + (∑ k, dense x r k * lw (ix2 0 k)) + lb (ix1 0) := by
  rw [← weight_apply, ← weight_apply]
  pointwise [val_main_v16, val_main_v15, val_main_v14, val_main_v13, val_main_v12, val_main_v11, val_main_v10, val_main_v9, val_main_v8,
    val_main_v7, val_main_cst, val_main_v2]
  simp only [Fin.sum_univ_two]

/-- The first layer's weighted sums, third by third. -/
theorem first_apply (x : S16384x20.Idx → EReal) (emb : S1000000x18.Idx → EReal) (W1 : S54x512.Idx → EReal) (r : Fin 16384) (j : Fin 512) :
    val_main_v29 (F := Ideal) x emb W1 (ix2 r j)
      = times (takeRow emb (word x r 0)) (third W1 0 (by decide)) j + times (takeRow emb (word x r 1)) (third W1 18 (by decide)) j
        + times (dense x r) (third W1 36 (by decide)) j := by
  have h : val_main_v29 (F := Ideal) x emb W1 (ix2 r j) = ∑ k : Fin 54, val_main_v28 (F := Ideal) x emb (ix2 r k) * W1 (ix2 k j) := by
    pointwise [val_main_v29]
  rw [h, sum_thirds]
  simp only [input_emb0, input_emb1, input_dense, times, third]

/-- The hidden layers' output. -/
theorem tower_apply (x : S16384x20.Idx → EReal) (emb : S1000000x18.Idx → EReal) (W1 : S54x512.Idx → EReal) (b1 : S512.Idx → EReal)
    (W2 : S512x256.Idx → EReal) (b2 : S256.Idx → EReal) (W3 : S256x128.Idx → EReal) (b3 : S128.Idx → EReal) (W4 : S128x1.Idx → EReal) (r : Fin 16384) :
    val_main_v44 (F := Ideal) x emb W1 b1 W2 b2 W3 b3 W4 (ix2 r 0)
      = tower (fun j => val_main_v29 (F := Ideal) x emb W1 (ix2 r j)) (fun j => b1 (ix1 j))
          (fun k j => W2 (ix2 k j)) (fun j => b2 (ix1 j)) (fun k j => W3 (ix2 k j)) (fun j => b3 (ix1 j)) (fun j => W4 (ix2 j 0)) := by
  pointwise [val_main_v44, val_main_v43, val_main_call4_v0, val_main_call4_cst, val_main_v42, val_main_v41, val_main_v40, val_main_v39,
    val_main_v38, val_main_call3_v0, val_main_call3_cst, val_main_v37, val_main_v36, val_main_v35, val_main_v34,
    val_main_v33, val_main_call2_v0, val_main_call2_cst, val_main_v32, val_main_v31, val_main_v30, tower, times, relu]

/-- The reference's order of addition gives the kernel's sum. -/
theorem reorder (a f0 f1 L b P T d : EReal) : a + (f0 + f1) + L + b + P + (T + d) = P + f0 + f1 + L + T + (a + b + d) := by
  ac_rfl

/-- The reference's result at row `r` is the model's row: its sums are the model's in another order. -/
theorem result_apply (x : S16384x20.Idx → EReal) (bias : S1.Idx → EReal) (fc : S1000000x1.Idx → EReal) (lw : S1x18.Idx → EReal) (lb : S1.Idx → EReal)
    (emb : S1000000x18.Idx → EReal) (W1 : S54x512.Idx → EReal) (b1 : S512.Idx → EReal) (W2 : S512x256.Idx → EReal) (b2 : S256.Idx → EReal)
    (W3 : S256x128.Idx → EReal) (b3 : S128.Idx → EReal) (W4 : S128x1.Idx → EReal) (b4 : S1.Idx → EReal) (r : Fin 16384) :
    val_main_v56 (F := Ideal) x bias fc lw lb emb W1 b1 W2 b2 W3 b3 W4 b4 (ix1 r) = row x bias fc lw lb emb W1 b1 W2 b2 W3 b3 W4 b4 r := by
  have e : val_main_v56 (F := Ideal) x bias fc lw lb emb W1 b1 W2 b2 W3 b3 W4 b4 (ix1 r)
      = Ideal.logistic (val_main_v16 (F := Ideal) x bias fc lw lb (ix2 r 0) + val_main_v25 (F := Ideal) x emb (ix2 r 0)
          + (val_main_v44 (F := Ideal) x emb W1 b1 W2 b2 W3 b3 W4 (ix2 r 0) + b4 (ix1 0))) := by
    pointwise [val_main_v56, val_main_cst_5, val_main_v55, val_main_v54, val_main_cst_4, val_main_v53, val_main_v52, val_main_v51, val_main_v50,
      val_main_v49, val_main_v48, val_main_v47, val_main_v46, val_main_v45, val_main_v26, Ideal.logistic]
  rw [e, linear_apply, pair_apply, tower_apply, funext (first_apply x emb W1 r)]
  unfold row logit
  refine congrArg Ideal.logistic ?_
  exact reorder ..

end Cert.ReferenceIdeal.Fm

end
-- ==== Proof.RefRun.lean ====
/-
  The run of the reference: its frame, and its result array row by row.
-/
module

public import proofs.«01_k».proof.Proof.RefValue
public import proofs.«01_k».proof.Proof.Gen.ReferenceIdeal.Run
public import Idealize.ShloMosaic.Lib.Quiescent

@[expose] public section

noncomputable section

namespace Cert.ReferenceIdeal.Fm

open Cert.ReferenceIdeal Cert.ReferenceIdeal.Gen Cert.ReferenceIdeal.Read Idealize.ShloMosaic Idealize.ShloMosaic.TcCoe Idealize.SL.Sem _root_.Fm

variable (m : (ℓ : Loc nD τ sig) → Buf (Elt Ideal) ℓ) (ρ : Dev nD → PrngReg)

/-- Every execution of the reference ends, with the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => (h c).2, sem_eq_zero_of_no_sems (by decide) r.2⟩) (Value.run (F := Ideal) m ρ)

/-- The reference's result array is the model's rows of the arrays its arguments hold. -/
theorem result_eq (c : Dev nD) (x : S16384x20.Idx → EReal)
    (bias : S1.Idx → EReal)
    (fc : S1000000x1.Idx → EReal)
    (lw : S1x18.Idx → EReal)
    (lb : S1.Idx → EReal)
    (emb : S1000000x18.Idx → EReal)
    (W1 : S54x512.Idx → EReal)
    (b1 : S512.Idx → EReal)
    (W2 : S512x256.Idx → EReal)
    (b2 : S256.Idx → EReal)
    (W3 : S256x128.Idx → EReal)
    (b3 : S128.Idx → EReal)
    (W4 : S128x1.Idx → EReal)
    (b4 : S1.Idx → EReal)
    (h : m ((c.tc : Thread nD τ).loc main_arg0) = x
      ∧ m ((c.tc : Thread nD τ).loc main_arg1) = bias
      ∧ m ((c.tc : Thread nD τ).loc main_arg2) = fc
      ∧ m ((c.tc : Thread nD τ).loc main_arg3) = lw
      ∧ m ((c.tc : Thread nD τ).loc main_arg4) = lb
      ∧ m ((c.tc : Thread nD τ).loc main_arg5) = emb
      ∧ m ((c.tc : Thread nD τ).loc main_arg6) = W1
      ∧ m ((c.tc : Thread nD τ).loc main_arg7) = b1
      ∧ m ((c.tc : Thread nD τ).loc main_arg8) = W2
      ∧ m ((c.tc : Thread nD τ).loc main_arg9) = b2
      ∧ m ((c.tc : Thread nD τ).loc main_arg10) = W3
      ∧ m ((c.tc : Thread nD τ).loc main_arg11) = b3
      ∧ m ((c.tc : Thread nD τ).loc main_arg12) = W4
      ∧ m ((c.tc : Thread nD τ).loc main_arg13) = b4) :
    Value.res_main_v56 m c = fun i => row x bias fc lw lb emb W1 b1 W2 b2 W3 b3 W4 b4 (i 0) := by
  obtain ⟨rfl, rfl, rfl, rfl, rfl, rfl, rfl, rfl, rfl, rfl, rfl, rfl, rfl, rfl⟩ := h
  refine (val_main_v56_eq m c).trans (funext fun i => ?_)
  obtain ⟨r, rfl⟩ : ∃ r : Fin 16384, i = ix1 r := ⟨i 0, funext fun a => by fin_cases a; rfl⟩
  exact result_apply _ _ _ _ _ _ _ _ _ _ _ _ _ _ r

end Cert.ReferenceIdeal.Fm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel and the reference, from equal arguments, end with equal results: both arrays are the model's rows. -/
theorem equal_results : Cert.algebraic_KernelIdeal_ReferenceIdeal (hKernelIdeal := Cert.KernelIdeal.Gen.facts) (hReferenceIdeal := Cert.ReferenceIdeal.Gen.facts) :=
  fun m g m' g' _ hargs => ⟨fun c => Cert.KernelIdeal.Fm.result m c, Cert.KernelIdeal.Fm.run_result m g,
    (θ_run Cert.ReferenceIdeal.defs _ _).mono
      (fun _ h c => ⟨(h c).1.trans (Cert.ReferenceIdeal.Fm.result_eq m' c _ _ _ _ _ _ _ _ _ _ _ _ _ _ (hargs c)), (h c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Fm.frame m ρ,
  trivial, equal_results⟩

end Cert.Proof

end
